-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3072 : Shape := ⟨3, ![2, 128, 3072]⟩
abbrev S3072x1024 : Shape := ⟨2, ![3072, 1024]⟩
abbrev S24x1024 : Shape := ⟨2, ![24, 1024]⟩
abbrev S24x8192 : Shape := ⟨2, ![24, 8192]⟩
abbrev S8192 : Shape := ⟨1, ![8192]⟩
abbrev S256x3072 : Shape := ⟨2, ![256, 3072]⟩
abbrev S1x8192 : Shape := ⟨2, ![1, 8192]⟩
abbrev S256x8192 : Shape := ⟨2, ![256, 8192]⟩
abbrev S2x128 : Shape := ⟨2, ![2, 128]⟩
abbrev S3072x128 : Shape := ⟨2, ![3072, 128]⟩
abbrev S24x128 : Shape := ⟨2, ![24, 128]⟩
abbrev S1x1024 : Shape := ⟨2, ![1, 1024]⟩
abbrev S256x1024 : Shape := ⟨2, ![256, 1024]⟩
abbrev S256x128 : Shape := ⟨2, ![256, 128]⟩
abbrev S8x24x128 : Shape := ⟨3, ![8, 24, 128]⟩
abbrev S8x8x128 : Shape := ⟨3, ![8, 8, 128]⟩
abbrev S256 : Shape := ⟨1, ![256]⟩
abbrev S256x1 : Shape := ⟨2, ![256, 1]⟩
abbrev S128x1 : Shape := ⟨2, ![128, 1]⟩
abbrev S128x128 : Shape := ⟨2, ![128, 128]⟩
abbrev S1x128 : Shape := ⟨2, ![1, 128]⟩
abbrev S256x128x1 : Shape := ⟨3, ![256, 128, 1]⟩
abbrev S24x128x1 : Shape := ⟨3, ![24, 128, 1]⟩
abbrev S1x24x128 : Shape := ⟨3, ![1, 24, 128]⟩
abbrev S8x1024 : Shape := ⟨2, ![8, 1024]⟩
abbrev S8x128 : Shape := ⟨2, ![8, 128]⟩
abbrev S8x128x1 : Shape := ⟨3, ![8, 128, 1]⟩
abbrev S1x8x128 : Shape := ⟨3, ![1, 8, 128]⟩
abbrev S64x128 : Shape := ⟨2, ![64, 128]⟩
abbrev S1x1x128 : Shape := ⟨3, ![1, 1, 128]⟩
abbrev S256x256 : Shape := ⟨2, ![256, 256]⟩

abbrev nBuf : Space → Nat
  | .hbm => 10
  | .vmem => 18
  | .smem => 0
  | _ => 0

abbrev bufTy : (tb : Table) → Fin (tcTables nBuf tb) → BufTy
  | .hbm, ⟨0, _⟩ => ⟨S2x128x3072, .bf16⟩
  | .hbm, ⟨1, _⟩ => ⟨S3072x1024, .i32⟩
  | .hbm, ⟨2, _⟩ => ⟨S24x1024, .i32⟩
  | .hbm, ⟨3, _⟩ => ⟨S24x8192, .i8⟩
  | .hbm, ⟨4, _⟩ => ⟨S8192, .f32⟩
  | .hbm, ⟨5, _⟩ => ⟨S256x3072, .bf16⟩
  | .hbm, ⟨6, _⟩ => ⟨S1x8192, .f32⟩
  | .hbm, ⟨7, _⟩ => ⟨S256x8192, .bf16⟩
  | .hbm, ⟨8, _⟩ => ⟨S256x3072, .i8⟩
  | .hbm, ⟨9, _⟩ => ⟨S2x128, .f32⟩
  | .local _ .vmem, ⟨0, _⟩ => ⟨S256x3072, .bf16⟩
  | .local _ .vmem, ⟨1, _⟩ => ⟨S3072x128, .i32⟩
  | .local _ .vmem, ⟨2, _⟩ => ⟨S3072x128, .i32⟩
  | .local _ .vmem, ⟨3, _⟩ => ⟨S24x128, .i32⟩
  | .local _ .vmem, ⟨4, _⟩ => ⟨S24x128, .i32⟩
  | .local _ .vmem, ⟨5, _⟩ => ⟨S24x1024, .i8⟩
  | .local _ .vmem, ⟨6, _⟩ => ⟨S24x1024, .i8⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x3072, .i8⟩
  | .local _ .vmem, ⟨12, _⟩ => ⟨S2x128, .f32⟩
  | .local _ .vmem, ⟨13, _⟩ => ⟨S256x3072, .bf16⟩
  | .local _ .vmem, ⟨14, _⟩ => ⟨S256x128, .f32⟩
  | .local _ .vmem, ⟨15, _⟩ => ⟨S8x24x128, .i32⟩
  | .local _ .vmem, ⟨16, _⟩ => ⟨S8x24x128, .i32⟩
  | .local _ .vmem, ⟨17, _⟩ => ⟨S8x8x128, .f32⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [BitOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x3072 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F]
-- ==== ReferenceIdeal.lean ====
abbrev S2x128x3072 : Shape := ⟨3, ![2, 128, 3072]⟩
abbrev S3072x1024 : Shape := ⟨2, ![3072, 1024]⟩
abbrev S24x1024 : Shape := ⟨2, ![24, 1024]⟩
abbrev S24x8192 : Shape := ⟨2, ![24, 8192]⟩
abbrev S8192 : Shape := ⟨1, ![8192]⟩
abbrev S_ : Shape := ⟨0, ![]⟩
abbrev S2x128 : Shape := ⟨2, ![2, 128]⟩
abbrev S2x128x1 : Shape := ⟨3, ![2, 128, 1]⟩
abbrev S24x128x1024 : Shape := ⟨3, ![24, 128, 1024]⟩
abbrev S24x1x1024 : Shape := ⟨3, ![24, 1, 1024]⟩
abbrev S2x128x1024 : Shape := ⟨3, ![2, 128, 1024]⟩
abbrev S2x128x1024x1 : Shape := ⟨4, ![2, 128, 1024, 1]⟩
abbrev S2x128x1024x8 : Shape := ⟨4, ![2, 128, 1024, 8]⟩
abbrev S2x128x8192 : Shape := ⟨3, ![2, 128, 8192]⟩
abbrev S1x1x8192 : Shape := ⟨3, ![1, 1, 8192]⟩
abbrev S256x8192 : Shape := ⟨2, ![256, 8192]⟩
abbrev S256x3072 : Shape := ⟨2, ![256, 3072]⟩

abbrev nBuf : Space → Nat
  | .hbm => 262
  | .vmem => 0
  | .smem => 0
  | _ => 0

abbrev hbmTy0_0 (i : Nat) : BufTy := match i % 128 with
  | 0 => ⟨S2x128x3072, .bf16⟩
  | 1 => ⟨S3072x1024, .i32⟩
  | 2 => ⟨S24x1024, .i32⟩
  | 3 => ⟨S24x8192, .i8⟩
  | 4 => ⟨S8192, .f32⟩
  | 5 => ⟨S2x128x3072, .f32⟩
  | 6 => ⟨S2x128x3072, .f32⟩
  | 7 => ⟨S_, .f32⟩
  | 8 => ⟨S2x128, .f32⟩
  | 9 => ⟨S_, .f32⟩
  | 10 => ⟨S2x128, .f32⟩
  | 11 => ⟨S2x128, .i1⟩
  | 12 => ⟨S_, .f32⟩
  | 13 => ⟨S2x128, .f32⟩
  | 14 => ⟨S2x128, .f32⟩
  | 15 => ⟨S_, .f32⟩
  | 16 => ⟨S_, .f32⟩
  | 17 => ⟨S2x128, .f32⟩
  | 18 => ⟨S2x128, .f32⟩
  | 19 => ⟨S2x128x1, .f32⟩
  | 20 => ⟨S2x128x3072, .f32⟩
  | 21 => ⟨S2x128x3072, .f32⟩
  | 22 => ⟨S2x128x3072, .f32⟩
  | 23 => ⟨S_, .f32⟩
  | 24 => ⟨S_, .f32⟩
  | 25 => ⟨S_, .f32⟩
  | 26 => ⟨S2x128x3072, .f32⟩
  | 27 => ⟨S2x128x3072, .f32⟩
  | 28 => ⟨S_, .f32⟩
  | 29 => ⟨S2x128x3072, .f32⟩
  | 30 => ⟨S2x128x3072, .f32⟩
  | 31 => ⟨S2x128x3072, .i32⟩
  | 32 => ⟨S2x128x3072, .i8⟩
  | 33 => ⟨S2x128x3072, .i32⟩
  | 34 => ⟨S2x128x3072, .bf16⟩
  | 35 => ⟨S_, .i32⟩
  | 36 => ⟨S3072x1024, .i32⟩
  | 37 => ⟨S3072x1024, .i32⟩
  | 38 => ⟨S_, .i32⟩
  | 39 => ⟨S3072x1024, .i32⟩
  | 40 => ⟨S3072x1024, .i32⟩
  | 41 => ⟨S_, .i32⟩
  | 42 => ⟨S24x1024, .i32⟩
  | 43 => ⟨S24x1024, .i32⟩
  | 44 => ⟨S_, .i32⟩
  | 45 => ⟨S24x1024, .i32⟩
  | 46 => ⟨S24x1024, .i32⟩
  | 47 => ⟨S24x1024, .i8⟩
  | 48 => ⟨S24x1024, .i32⟩
  | 49 => ⟨S24x1024, .bf16⟩
  | 50 => ⟨S3072x1024, .bf16⟩
  | 51 => ⟨S24x128x1024, .bf16⟩
  | 52 => ⟨S24x1024, .bf16⟩
  | 53 => ⟨S24x1x1024, .bf16⟩
  | 54 => ⟨S24x128x1024, .bf16⟩
  | 55 => ⟨S24x128x1024, .bf16⟩
  | 56 => ⟨S24x1x1024, .bf16⟩
  | 57 => ⟨S24x128x1024, .bf16⟩
  | 58 => ⟨S24x128x1024, .bf16⟩
  | 59 => ⟨S3072x1024, .bf16⟩
  | 60 => ⟨S2x128x1024, .f32⟩
  | 61 => ⟨S_, .i32⟩
  | 62 => ⟨S3072x1024, .i32⟩
  | 63 => ⟨S3072x1024, .i32⟩
  | 64 => ⟨S_, .i32⟩
  | 65 => ⟨S3072x1024, .i32⟩
  | 66 => ⟨S3072x1024, .i32⟩
  | 67 => ⟨S_, .i32⟩
  | 68 => ⟨S24x1024, .i32⟩
  | 69 => ⟨S24x1024, .i32⟩
  | 70 => ⟨S_, .i32⟩
  | 71 => ⟨S24x1024, .i32⟩
  | 72 => ⟨S24x1024, .i32⟩
  | 73 => ⟨S24x1024, .i8⟩
  | 74 => ⟨S24x1024, .i32⟩
  | 75 => ⟨S24x1024, .bf16⟩
  | 76 => ⟨S3072x1024, .bf16⟩
  | 77 => ⟨S24x128x1024, .bf16⟩
  | 78 => ⟨S24x1024, .bf16⟩
  | 79 => ⟨S24x1x1024, .bf16⟩
  | 80 => ⟨S24x128x1024, .bf16⟩
  | 81 => ⟨S24x128x1024, .bf16⟩
  | 82 => ⟨S24x1x1024, .bf16⟩
  | 83 => ⟨S24x128x1024, .bf16⟩
  | 84 => ⟨S24x128x1024, .bf16⟩
  | 85 => ⟨S3072x1024, .bf16⟩
  | 86 => ⟨S2x128x1024, .f32⟩
  | 87 => ⟨S_, .i32⟩
  | 88 => ⟨S3072x1024, .i32⟩
  | 89 => ⟨S3072x1024, .i32⟩
  | 90 => ⟨S_, .i32⟩
  | 91 => ⟨S3072x1024, .i32⟩
  | 92 => ⟨S3072x1024, .i32⟩
  | 93 => ⟨S_, .i32⟩
  | 94 => ⟨S24x1024, .i32⟩
  | 95 => ⟨S24x1024, .i32⟩
  | 96 => ⟨S_, .i32⟩
  | 97 => ⟨S24x1024, .i32⟩
  | 98 => ⟨S24x1024, .i32⟩
  | 99 => ⟨S24x1024, .i8⟩
  | 100 => ⟨S24x1024, .i32⟩
  | 101 => ⟨S24x1024, .bf16⟩
  | 102 => ⟨S3072x1024, .bf16⟩
  | 103 => ⟨S24x128x1024, .bf16⟩
  | 104 => ⟨S24x1024, .bf16⟩
  | 105 => ⟨S24x1x1024, .bf16⟩
  | 106 => ⟨S24x128x1024, .bf16⟩
  | 107 => ⟨S24x128x1024, .bf16⟩
  | 108 => ⟨S24x1x1024, .bf16⟩
  | 109 => ⟨S24x128x1024, .bf16⟩
  | 110 => ⟨S24x128x1024, .bf16⟩
  | 111 => ⟨S3072x1024, .bf16⟩
  | 112 => ⟨S2x128x1024, .f32⟩
  | 113 => ⟨S_, .i32⟩
  | 114 => ⟨S3072x1024, .i32⟩
  | 115 => ⟨S3072x1024, .i32⟩
  | 116 => ⟨S_, .i32⟩
  | 117 => ⟨S3072x1024, .i32⟩
  | 118 => ⟨S3072x1024, .i32⟩
  | 119 => ⟨S_, .i32⟩
  | 120 => ⟨S24x1024, .i32⟩
  | 121 => ⟨S24x1024, .i32⟩
  | 122 => ⟨S_, .i32⟩
  | 123 => ⟨S24x1024, .i32⟩
  | 124 => ⟨S24x1024, .i32⟩
  | 125 => ⟨S24x1024, .i8⟩
  | 126 => ⟨S24x1024, .i32⟩
  | 127 => ⟨S24x1024, .bf16⟩
  | _ => ⟨S2x128x3072, .bf16⟩

abbrev hbmTy0_1 (i : Nat) : BufTy := match i % 128 with
  | 0 => ⟨S3072x1024, .bf16⟩
  | 1 => ⟨S24x128x1024, .bf16⟩
  | 2 => ⟨S24x1024, .bf16⟩
  | 3 => ⟨S24x1x1024, .bf16⟩
  | 4 => ⟨S24x128x1024, .bf16⟩
  | 5 => ⟨S24x128x1024, .bf16⟩
  | 6 => ⟨S24x1x1024, .bf16⟩
  | 7 => ⟨S24x128x1024, .bf16⟩
  | 8 => ⟨S24x128x1024, .bf16⟩
  | 9 => ⟨S3072x1024, .bf16⟩
  | 10 => ⟨S2x128x1024, .f32⟩
  | 11 => ⟨S_, .i32⟩
  | 12 => ⟨S3072x1024, .i32⟩
  | 13 => ⟨S3072x1024, .i32⟩
  | 14 => ⟨S_, .i32⟩
  | 15 => ⟨S3072x1024, .i32⟩
  | 16 => ⟨S3072x1024, .i32⟩
  | 17 => ⟨S_, .i32⟩
  | 18 => ⟨S24x1024, .i32⟩
  | 19 => ⟨S24x1024, .i32⟩
  | 20 => ⟨S_, .i32⟩
  | 21 => ⟨S24x1024, .i32⟩
  | 22 => ⟨S24x1024, .i32⟩
  | 23 => ⟨S24x1024, .i8⟩
  | 24 => ⟨S24x1024, .i32⟩
  | 25 => ⟨S24x1024, .bf16⟩
  | 26 => ⟨S3072x1024, .bf16⟩
  | 27 => ⟨S24x128x1024, .bf16⟩
  | 28 => ⟨S24x1024, .bf16⟩
  | 29 => ⟨S24x1x1024, .bf16⟩
  | 30 => ⟨S24x128x1024, .bf16⟩
  | 31 => ⟨S24x128x1024, .bf16⟩
  | 32 => ⟨S24x1x1024, .bf16⟩
  | 33 => ⟨S24x128x1024, .bf16⟩
  | 34 => ⟨S24x128x1024, .bf16⟩
  | 35 => ⟨S3072x1024, .bf16⟩
  | 36 => ⟨S2x128x1024, .f32⟩
  | 37 => ⟨S_, .i32⟩
  | 38 => ⟨S3072x1024, .i32⟩
  | 39 => ⟨S3072x1024, .i32⟩
  | 40 => ⟨S_, .i32⟩
  | 41 => ⟨S3072x1024, .i32⟩
  | 42 => ⟨S3072x1024, .i32⟩
  | 43 => ⟨S_, .i32⟩
  | 44 => ⟨S24x1024, .i32⟩
  | 45 => ⟨S24x1024, .i32⟩
  | 46 => ⟨S_, .i32⟩
  | 47 => ⟨S24x1024, .i32⟩
  | 48 => ⟨S24x1024, .i32⟩
  | 49 => ⟨S24x1024, .i8⟩
  | 50 => ⟨S24x1024, .i32⟩
  | 51 => ⟨S24x1024, .bf16⟩
  | 52 => ⟨S3072x1024, .bf16⟩
  | 53 => ⟨S24x128x1024, .bf16⟩
  | 54 => ⟨S24x1024, .bf16⟩
  | 55 => ⟨S24x1x1024, .bf16⟩
  | 56 => ⟨S24x128x1024, .bf16⟩
  | 57 => ⟨S24x128x1024, .bf16⟩
  | 58 => ⟨S24x1x1024, .bf16⟩
  | 59 => ⟨S24x128x1024, .bf16⟩
  | 60 => ⟨S24x128x1024, .bf16⟩
  | 61 => ⟨S3072x1024, .bf16⟩
  | 62 => ⟨S2x128x1024, .f32⟩
  | 63 => ⟨S_, .i32⟩
  | 64 => ⟨S3072x1024, .i32⟩
  | 65 => ⟨S3072x1024, .i32⟩
  | 66 => ⟨S_, .i32⟩
  | 67 => ⟨S3072x1024, .i32⟩
  | 68 => ⟨S3072x1024, .i32⟩
  | 69 => ⟨S_, .i32⟩
  | 70 => ⟨S24x1024, .i32⟩
  | 71 => ⟨S24x1024, .i32⟩
  | 72 => ⟨S_, .i32⟩
  | 73 => ⟨S24x1024, .i32⟩
  | 74 => ⟨S24x1024, .i32⟩
  | 75 => ⟨S24x1024, .i8⟩
  | 76 => ⟨S24x1024, .i32⟩
  | 77 => ⟨S24x1024, .bf16⟩
  | 78 => ⟨S3072x1024, .bf16⟩
  | 79 => ⟨S24x128x1024, .bf16⟩
  | 80 => ⟨S24x1024, .bf16⟩
  | 81 => ⟨S24x1x1024, .bf16⟩
  | 82 => ⟨S24x128x1024, .bf16⟩
  | 83 => ⟨S24x128x1024, .bf16⟩
  | 84 => ⟨S24x1x1024, .bf16⟩
  | 85 => ⟨S24x128x1024, .bf16⟩
  | 86 => ⟨S24x128x1024, .bf16⟩
  | 87 => ⟨S3072x1024, .bf16⟩
  | 88 => ⟨S2x128x1024, .f32⟩
  | 89 => ⟨S_, .i32⟩
  | 90 => ⟨S3072x1024, .i32⟩
  | 91 => ⟨S3072x1024, .i32⟩
  | 92 => ⟨S_, .i32⟩
  | 93 => ⟨S3072x1024, .i32⟩
  | 94 => ⟨S3072x1024, .i32⟩
  | 95 => ⟨S_, .i32⟩
  | 96 => ⟨S24x1024, .i32⟩
  | 97 => ⟨S24x1024, .i32⟩
  | 98 => ⟨S_, .i32⟩
  | 99 => ⟨S24x1024, .i32⟩
  | 100 => ⟨S24x1024, .i32⟩
  | 101 => ⟨S24x1024, .i8⟩
  | 102 => ⟨S24x1024, .i32⟩
  | 103 => ⟨S24x1024, .bf16⟩
  | 104 => ⟨S3072x1024, .bf16⟩
  | 105 => ⟨S24x128x1024, .bf16⟩
  | 106 => ⟨S24x1024, .bf16⟩
  | 107 => ⟨S24x1x1024, .bf16⟩
  | 108 => ⟨S24x128x1024, .bf16⟩
  | 109 => ⟨S24x128x1024, .bf16⟩
  | 110 => ⟨S24x1x1024, .bf16⟩
  | 111 => ⟨S24x128x1024, .bf16⟩
  | 112 => ⟨S24x128x1024, .bf16⟩
  | 113 => ⟨S3072x1024, .bf16⟩
  | 114 => ⟨S2x128x1024, .f32⟩
  | 115 => ⟨S2x128x1024x1, .f32⟩
  | 116 => ⟨S2x128x1024x1, .f32⟩
  | 117 => ⟨S2x128x1024x1, .f32⟩
  | 118 => ⟨S2x128x1024x1, .f32⟩
  | 119 => ⟨S2x128x1024x1, .f32⟩
  | 120 => ⟨S2x128x1024x1, .f32⟩
  | 121 => ⟨S2x128x1024x1, .f32⟩
  | 122 => ⟨S2x128x1024x1, .f32⟩
  | 123 => ⟨S2x128x1024x8, .f32⟩
  | 124 => ⟨S2x128x8192, .f32⟩
  | 125 => ⟨S2x128x1, .f32⟩
  | 126 => ⟨S2x128x8192, .f32⟩
  | 127 => ⟨S2x128x8192, .f32⟩
  | _ => ⟨S2x128x3072, .bf16⟩

abbrev hbmTy0_2 (i : Nat) : BufTy := match i % 128 with
  | 0 => ⟨S1x1x8192, .f32⟩
  | 1 => ⟨S2x128x8192, .f32⟩
  | 2 => ⟨S2x128x8192, .f32⟩
  | 3 => ⟨S2x128x8192, .bf16⟩
  | 4 => ⟨S256x8192, .bf16⟩
  | 5 => ⟨S256x3072, .i8⟩
  | _ => ⟨S2x128x3072, .bf16⟩

abbrev hbmTy (i : Nat) : BufTy := match i / 128 with
  | 0 => hbmTy0_0 i
  | 1 => hbmTy0_1 i
  | 2 => hbmTy0_2 i
  | _ => ⟨S2x128x3072, .bf16⟩

abbrev bufTy : (tb : Table) → Fin (tcTables nBuf tb) → BufTy
  | .hbm, ⟨i, _⟩ => hbmTy i
  | _, _ => ⟨S2x128x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_cst_4 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_16 : Ref sig .tc := ⟨.hbm, 113, rfl⟩
abbrev main_v83 : Ref sig .tc := ⟨.hbm, 114, rfl⟩
abbrev main_v84 : Ref sig .tc := ⟨.hbm, 115, rfl⟩
abbrev main_c_17 : Ref sig .tc := ⟨.hbm, 116, rfl⟩
abbrev main_v85 : Ref sig .tc := ⟨.hbm, 117, rfl⟩
abbrev main_v86 : Ref sig .tc := ⟨.hbm, 118, rfl⟩
abbrev main_c_18 : Ref sig .tc := ⟨.hbm, 119, rfl⟩
abbrev main_v87 : Ref sig .tc := ⟨.hbm, 120, rfl⟩
abbrev main_v88 : Ref sig .tc := ⟨.hbm, 121, rfl⟩
abbrev main_c_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_c_21 : Ref sig .tc := ⟨.hbm, 142, rfl⟩
abbrev main_v107 : Ref sig .tc := ⟨.hbm, 143, rfl⟩
abbrev main_v108 : Ref sig .tc := ⟨.hbm, 144, rfl⟩
abbrev main_c_22 : Ref sig .tc := ⟨.hbm, 145, rfl⟩
abbrev main_v109 : Ref sig .tc := ⟨.hbm, 146, rfl⟩
abbrev main_v110 : Ref sig .tc := ⟨.hbm, 147, rfl⟩
abbrev main_c_23 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_c_24 : Ref sig .tc := ⟨.hbm, 165, rfl⟩
abbrev main_v127 : Ref sig .tc := ⟨.hbm, 166, rfl⟩
abbrev main_v128 : Ref sig .tc := ⟨.hbm, 167, rfl⟩
abbrev main_c_25 : Ref sig .tc := ⟨.hbm, 168, rfl⟩
abbrev main_v129 : Ref sig .tc := ⟨.hbm, 169, rfl⟩
abbrev main_v130 : Ref sig .tc := ⟨.hbm, 170, rfl⟩
abbrev main_c_26 : Ref sig .tc := ⟨.hbm, 171, rfl⟩
abbrev main_v131 : Ref sig .tc := ⟨.hbm, 172, rfl⟩
abbrev main_v132 : Ref sig .tc := ⟨.hbm, 173, rfl⟩
abbrev main_c_27 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_c_28 : Ref sig .tc := ⟨.hbm, 191, rfl⟩
abbrev main_v149 : Ref sig .tc := ⟨.hbm, 192, rfl⟩
abbrev main_v150 : Ref sig .tc := ⟨.hbm, 193, rfl⟩
abbrev main_c_29 : Ref sig .tc := ⟨.hbm, 194, rfl⟩
abbrev main_v151 : Ref sig .tc := ⟨.hbm, 195, rfl⟩
abbrev main_v152 : Ref sig .tc := ⟨.hbm, 196, rfl⟩
abbrev main_c_30 : Ref sig .tc := ⟨.hbm, 197, rfl⟩
abbrev main_v153 : Ref sig .tc := ⟨.hbm, 198, rfl⟩
abbrev main_v154 : Ref sig .tc := ⟨.hbm, 199, rfl⟩
abbrev main_c_31 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_c_32 : Ref sig .tc := ⟨.hbm, 217, rfl⟩
abbrev main_v171 : Ref sig .tc := ⟨.hbm, 218, rfl⟩
abbrev main_v172 : Ref sig .tc := ⟨.hbm, 219, rfl⟩
abbrev main_c_33 : Ref sig .tc := ⟨.hbm, 220, rfl⟩
abbrev main_v173 : Ref sig .tc := ⟨.hbm, 221, rfl⟩
abbrev main_v174 : Ref sig .tc := ⟨.hbm, 222, rfl⟩
abbrev main_c_34 : Ref sig .tc := ⟨.hbm, 223, rfl⟩
abbrev main_v175 : Ref sig .tc := ⟨.hbm, 224, rfl⟩
abbrev main_v176 : Ref sig .tc := ⟨.hbm, 225, rfl⟩
abbrev main_c_35 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩

abbrev nD : Nat := 1
abbrev τ : Topo := Topo.v7x

variable {F : FTy → Type} [FloatOps F]
-- ==== Proof.RunBase.lean ====
/- What the two runs of the kernel body share: the body's branch condition in closed form over the grid points, where the
   output windows are stored and where they are idle, and the staging and scratch memrefs. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x80 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → cfg0.idle 6 (grid0.coords t) = true := by decide +kernel
/-- Before the last point the pipeline does not write output 6's block back. -/
theorem noFlush0_6 : ∀ t : Fin cfg0.N, t.val ≠ 7 → (cfg0.win 6).flush t = false := by decide +kernel
/-- At the last point it does. -/
theorem flush0_6_last : ∀ t : Fin cfg0.N, t.val = 7 → (cfg0.win 6).flush t = true := by decide +kernel
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x80 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → cfg0.idle 7 (grid0.coords t) = false := by decide +kernel
/-- At the points of case B the printed configuration (`Cfg.idle`) calls output 7 idle: the case stores nothing into it. -/
theorem idleAt0_7_B : ∀ t : Fin cfg0.N, ¬cond0_0 (grid0.coords t) → cfg0.idle 7 (grid0.coords t) = true := by decide +kernel
/-- Before the last point the pipeline does not write output 7's block back. -/
theorem noFlush0_7 : ∀ t : Fin cfg0.N, t.val ≠ 7 → (cfg0.win 7).flush t = false := by decide +kernel
/-- At the last point it does. -/
theorem flush0_7_last : ∀ t : Fin cfg0.N, t.val = 7 → (cfg0.win 7).flush t = true := by decide +kernel

/-! ## The kernel body on any staging memrefs: a subtype the run finds -/

/-- One staging buffer of output window 5, through which its contents are stated (`View.read_writes_of_cover`: the
    choice does not matter). -/
abbrev VO0_5 : View sig .tc .vmem S256x1024 .bf16 := (Memref.whole cc0_stg5_0 : Memref sig .tc .vmem S256x1024 .bf16).view
/-- One staging buffer of output window 6, through which its contents are stated (`View.read_writes_of_cover`: the
    choice does not matter). -/
abbrev VO0_6 : View sig .tc .vmem S256x3072 .i8 := (Memref.whole cc0_stg6_0 : Memref sig .tc .vmem S256x3072 .i8).view
/-- One staging buffer of output window 7, through which its contents are stated (`View.read_writes_of_cover`: the
    choice does not matter). -/
abbrev VO0_7 : View sig .tc .vmem S2x128 .f32 := (Memref.whole cc0_stg7_0 : Memref sig .tc .vmem S2x128 .f32).view
/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3072 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x3072 .bf16 := Memref.whole cc0_scratch0
abbrev scM0_1 : Memref sig .tc .vmem S256x128 .f32 := Memref.whole cc0_scratch1
abbrev scM0_2 : Memref sig .tc .vmem S8x24x128 .i32 := Memref.whole cc0_scratch2
abbrev scM0_3 : Memref sig .tc .vmem S8x24x128 .i32 := Memref.whole cc0_scratch3
abbrev scM0_4 : Memref sig .tc .vmem S8x8x128 .f32 := Memref.whole cc0_scratch4
/-- The scratch `arg9` the kernel carries between points, as a view: what it holds is stated through it. -/
abbrev VS0_0 : View sig .tc .vmem S256x3072 .bf16 := scM0_0.view
/-- The scratch `arg10` the kernel carries between points, as a view: what it holds is stated through it. -/
abbrev VS0_1 : View sig .tc .vmem S256x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.RunA.lean ====
/- The run of the whole kernel body at the first grid point, where the activations are quantised: the body's triple, the
   pieces each buffer ends with being its witness. -/
module

public import proofs.«01_k».proof.Proof.RunBase

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4436000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) :
    Σ' (L5 : List (View.Piece (Elt F) S256x1024 .bf16)), Σ' (L6 : List (View.Piece (Elt F) S256x3072 .i8)), Σ' (L7 : List (View.Piece (Elt F) S2x128 .f32)), Σ' (LS0 : List (View.Piece (Elt F) S256x3072 .bf16)), Σ' (LS1 : List (View.Piece (Elt F) S256x128 .f32)), Σ' (LT2 : List (View.Piece (Elt F) S8x24x128 .i32)), Σ' (LT3 : List (View.Piece (Elt F) S8x24x128 .i32)), { LT4 : List (View.Piece (Elt F) S8x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_w4a8_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0_w4a8_linear_eq_skeleton]; unfold cc0_w4a8_linear_skel
    simp only [k0_part197_eq_skeleton, k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part198_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.RunB.lean ====
/- The run of the whole kernel body at the later grid points: the body's triple, the pieces each buffer ends with being its
   witness. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3740000 in
/-- What the body's stores leave in each output's staging memref, as pieces (last first) IN CASE B (`scf.if` 0 not taken: points 1, 2, … 7: 7 of 8), WITH the
    proof that on whole staging memrefs — the inputs' at their contents, the outputs it leaves idle (6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : ¬cond0_0 i)
    (x0 : Vec F S256x3072 .bf16) (x1 : Vec F S3072x128 .i32) (x2 : Vec F S24x128 .i32) (x3 : Vec F S24x1024 .i8) (x4 : Vec F S1x1024 .f32) (xs0 : Vec F S256x3072 .bf16) (xs1 : Vec F S256x128 .f32) :
    Σ' (L5 : List (View.Piece (Elt F) S256x1024 .bf16)), Σ' (L6 : List (View.Piece (Elt F) S256x3072 .i8)), Σ' (L7 : List (View.Piece (Elt F) S2x128 .f32)), Σ' (LS0 : List (View.Piece (Elt F) S256x3072 .bf16)), Σ' (LS1 : List (View.Piece (Elt F) S256x128 .f32)), Σ' (LT2 : List (View.Piece (Elt F) S8x24x128 .i32)), Σ' (LT3 : List (View.Piece (Elt F) S8x24x128 .i32)), { LT4 : List (View.Piece (Elt F) S8x8x128 .f32) //
      ∀ (xi6 : Vec F S256x3072 .i8) (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ owns (c : Thread nD τ) arg9 fullShare xs0 ∗ owns (c : Thread nD τ) arg10 fullShare xs1 ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_w4a8_linear i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], [], ?_, ?_, ?_, fun xi6 xi7 E K => ?run⟩
  case run =>
    simp only [cc0_w4a8_linear_eq_skeleton]; unfold cc0_w4a8_linear_skel
    simp only [k0_part197_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part198_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexists _; iexact HS3
    iexists _; iexact HS4

end Cert.KernelIdeal.Gen

end
-- ==== Proof.Outs.lean ====
/- What the kernel leaves in its outputs and in the two scratch buffers it carries, point by point; the pipeline's proof data;
   the body obligation at a generic point; the run of the whole program and the frame. The codes and the scales are stored at
   the first point only and written back at the last one: between, their buffers keep what the first point stored. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (8 stores of `S256x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1 S256x128.size (by sl_kernel_rfl) y

/-- What case A leaves in output 5's staging buffer: its pieces read back over junk. -/
def out0_A_5 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) : Vec F S256x1024 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1)

/-- Case A's pieces for output 6 tile its block (1 store of `S256x3072`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) (y : S256x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1 S256x3072.size (by sl_kernel_rfl) y

/-- What case A leaves in output 6's staging buffer: its pieces read back over junk. -/
def out0_A_6 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) : Vec F S256x3072 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1)

/-- Case A's pieces for output 7 tile its block (2 stores of `S1x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) (y : S2x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1 S1x128.size (by sl_kernel_rfl) y

/-- What case A leaves in output 7's staging buffer: its pieces read back over junk. -/
def out0_A_7 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) : Vec F S2x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1)

/-- Case A's pieces for scratch `arg9`, which the kernel carries between points, cover it: 24 pieces of `S256x128` tiling it (Lib/Ring.lean `Piece.tiledL`). -/
theorem scover0_A_0 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) (y : S256x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.1 S256x128.size (by sl_kernel_rfl) y

/-- What case A leaves in scratch `arg9`: its pieces read back over junk. -/
def sout0_A_0 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) : Vec F S256x3072 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.1)

/-- Case A's pieces for scratch `arg10`, which the kernel carries between points, cover it: 1 piece of `S256x128` tiling it (Lib/Ring.lean `Piece.tiledL`). -/
theorem scover0_A_1 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.2.1 S256x128.size (by sl_kernel_rfl) y

/-- What case A leaves in scratch `arg10`: its pieces read back over junk. -/
def sout0_A_1 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) : Vec F S256x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.2.1)

/-- Case B's pieces for output 5 tile its block (8 stores of `S256x128`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : ¬cond0_0 i)
    (x0 : Vec F S256x3072 .bf16) (x1 : Vec F S3072x128 .i32) (x2 : Vec F S24x128 .i32) (x3 : Vec F S24x1024 .i8) (x4 : Vec F S1x1024 .f32) (xs0 : Vec F S256x3072 .bf16) (xs1 : Vec F S256x128 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).1 S256x128.size (by sl_kernel_rfl) y

/-- What case B leaves in output 5's staging buffer: its pieces read back over junk. -/
def out0_B_5 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : ¬cond0_0 i)
    (x0 : Vec F S256x3072 .bf16) (x1 : Vec F S3072x128 .i32) (x2 : Vec F S24x128 .i32) (x3 : Vec F S24x1024 .i8) (x4 : Vec F S1x1024 .f32) (xs0 : Vec F S256x3072 .bf16) (xs1 : Vec F S256x128 .f32) : Vec F S256x1024 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).1)

/-- Case B stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_6 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : ¬cond0_0 i)
    (x0 : Vec F S256x3072 .bf16) (x1 : Vec F S3072x128 .i32) (x2 : Vec F S24x128 .i32) (x3 : Vec F S24x1024 .i8) (x4 : Vec F S1x1024 .f32) (xs0 : Vec F S256x3072 .bf16) (xs1 : Vec F S256x128 .f32) (xo6 : Vec F S256x3072 .i8) : Vec F S256x3072 .i8 := xo6

/-- Case B stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_7 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : ¬cond0_0 i)
    (x0 : Vec F S256x3072 .bf16) (x1 : Vec F S3072x128 .i32) (x2 : Vec F S24x128 .i32) (x3 : Vec F S24x1024 .i8) (x4 : Vec F S1x1024 .f32) (xs0 : Vec F S256x3072 .bf16) (xs1 : Vec F S256x128 .f32) (xo7 : Vec F S2x128 .f32) : Vec F S2x128 .f32 := xo7

/-- Case B stores nothing into scratch `arg9`: it holds what the point before left. -/
def sout0_B_0 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : ¬cond0_0 i)
    (x0 : Vec F S256x3072 .bf16) (x1 : Vec F S3072x128 .i32) (x2 : Vec F S24x128 .i32) (x3 : Vec F S24x1024 .i8) (x4 : Vec F S1x1024 .f32) (xs0 : Vec F S256x3072 .bf16) (xs1 : Vec F S256x128 .f32) : Vec F S256x3072 .bf16 := xs0

/-- Case B stores nothing into scratch `arg10`: it holds what the point before left. -/
def sout0_B_1 (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : ¬cond0_0 i)
    (x0 : Vec F S256x3072 .bf16) (x1 : Vec F S3072x128 .i32) (x2 : Vec F S24x128 .i32) (x3 : Vec F S24x1024 .i8) (x4 : Vec F S1x1024 .f32) (xs0 : Vec F S256x3072 .bf16) (xs1 : Vec F S256x128 .f32) : Vec F S256x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x1024 .bf16 × Vec F S256x3072 .i8 × Vec F S2x128 .f32 × Vec F S256x3072 .bf16 × Vec F S256x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2 (outsAt0 c n (Nat.lt_of_succ_lt hn)).2.1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 8 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 8 := lt_of_lt_of_eq t.isLt (show cfg0.N = 8 from N_0)
  rw [after0_6, after0_6]
  by_cases h0 : t.val % 8 = 0
  · rw [liveAt0_6_A t ((hcond0_0 t).mpr h0)] at hi
    exact absurd hi Bool.false_ne_true
  · rw [outsAt0_B m c t h0]
    dsimp only
    unfold out0_B_6
    rfl

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 8 := lt_of_lt_of_eq t.isLt (show cfg0.N = 8 from N_0)
  rw [after0_7, after0_7]
  by_cases h0 : t.val % 8 = 0
  · rw [liveAt0_7_A t ((hcond0_0 t).mpr h0)] at hi
    exact absurd hi Bool.false_ne_true
  · rw [outsAt0_B m c t h0]
    dsimp only
    unfold out0_B_7
    rfl

/-- At a later point the body finds in output 6's buffer what the proof data say of that point: what the first point stored,
    carried. -/
theorem before_eq_after6 (c : Dev nD) (t : Fin cfg0.N) (h0 : ¬t.val % 8 = 0) (d) :
    (dats m 0 c).before 6 t d = (dats m 0 c).after 6 t := by
  have hN : t.val < 8 := lt_of_lt_of_eq t.isLt (show cfg0.N = 8 from N_0)
  have hz : t.val ≠ 0 := by omega
  have hf : cfg0.fresh 6 t.val = false := by
    rw [fresh0_6_eq]
    exact (show ∀ n : Fin 8, n.val ≠ 0 → freshTab0_6 n.val = false by decide) ⟨t.val, hN⟩ hz
  rw [Dat.before_out_traj _ 6 rfl (fun _ _ => rfl) (hcarry0_6 m c) t.val t rfl d, if_neg (by rw [hf]; exact Bool.false_ne_true)]
  exact (hcarry0_6 m c t hz (idleAt0_6_B t (fun h => h0 ((hcond0_0 t).mp h))) hf).symm

/-- At a later point output 6's buffer, handed back as found, is what the obligation asks: before the last point because the
    window is idle and not written back, at the last because what it holds is what is to be written. -/
theorem leaves_found6 (c : Dev nD) (t : Fin cfg0.N) (h0 : ¬t.val % 8 = 0) (d) :
    owns (c : Thread nD τ) (ms0_6 t) fullShare ((dats m 0 c).before 6 t d) ⊢ ((dats m 0 c).leavesExact 6 t : sProp 𝕄) := by
  by_cases h7 : t.val = 7
  · rw [before_eq_after6 m c t h0]
    unfold Dat.leavesExact
    rw [idleAt0_6_B t (fun h => h0 ((hcond0_0 t).mp h)), flush0_6_last t h7]
  · rw [Dat.leavesExact_idle (dats m 0 c) 6 t (idleAt0_6_B t (fun h => h0 ((hcond0_0 t).mp h))) (noFlush0_6 t h7)]
    iintro H; iexists _; iexact H

/-- At a later point the body finds in output 7's buffer what the proof data say of that point: what the first point stored,
    carried. -/
theorem before_eq_after7 (c : Dev nD) (t : Fin cfg0.N) (h0 : ¬t.val % 8 = 0) (d) :
    (dats m 0 c).before 7 t d = (dats m 0 c).after 7 t := by
  have hN : t.val < 8 := lt_of_lt_of_eq t.isLt (show cfg0.N = 8 from N_0)
  have hz : t.val ≠ 0 := by omega
  have hf : cfg0.fresh 7 t.val = false := by
    rw [fresh0_7_eq]
    exact (show ∀ n : Fin 8, n.val ≠ 0 → freshTab0_7 n.val = false by decide) ⟨t.val, hN⟩ hz
  rw [Dat.before_out_traj _ 7 rfl (fun _ _ => rfl) (hcarry0_7 m c) t.val t rfl d, if_neg (by rw [hf]; exact Bool.false_ne_true)]
  exact (hcarry0_7 m c t hz (idleAt0_7_B t (fun h => h0 ((hcond0_0 t).mp h))) hf).symm

/-- At a later point output 7's buffer, handed back as found, is what the obligation asks: before the last point because the
    window is idle and not written back, at the last because what it holds is what is to be written. -/
theorem leaves_found7 (c : Dev nD) (t : Fin cfg0.N) (h0 : ¬t.val % 8 = 0) (d) :
    owns (c : Thread nD τ) (ms0_7 t) fullShare ((dats m 0 c).before 7 t d) ⊢ ((dats m 0 c).leavesExact 7 t : sProp 𝕄) := by
  by_cases h7 : t.val = 7
  · rw [before_eq_after7 m c t h0]
    unfold Dat.leavesExact
    rw [idleAt0_7_B t (fun h => h0 ((hcond0_0 t).mp h)), flush0_7_last t h7]
  · rw [Dat.leavesExact_idle (dats m 0 c) 7 t (idleAt0_7_B t (fun h => h0 ((hcond0_0 t).mp h))) (noFlush0_7 t h7)]
    iintro H; iexists _; iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    rw [show (dats m 0 c).leavesExact 7 t = owns (c : Thread nD τ) (ms0_7 t) fullShare ((dats m 0 c).after 7 t) from by
      unfold Dat.leavesExact; rw [liveAt0_7_A t ((hcond0_0 t).mpr h0)], after0_7]
    by_cases hz : t.val = 0
    · rw [PhiS_castSucc m c t, PhiS_zero m c _ _ hz, PhiA0_eq]
      rw [outsAt0_A m c t h0]
      unfold out0_A_5 out0_A_6 out0_A_7 sout0_A_0 sout0_A_1; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, ⟨%e5, H5⟩, ⟨%e6, H6⟩, ⟨%e7, H7⟩, ⟨%es0, HS0⟩, ⟨%es1, HS1⟩, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _)
    · exfalso; have hN : t.val < 8 := lt_of_lt_of_eq t.isLt (show cfg0.N = 8 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_5 sout0_B_0 sout0_B_1; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _).2.2.2.2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, ⟨%e5, H5⟩, H6, H7, HS0, HS1, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · iexact HS0
          isplitl [HS1]
          · iexact HS1
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _)
      isplitl [H6]; · iapply (leaves_found6 m c t h0 d6); iexact H6
      iapply (leaves_found7 m c t h0 d7); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.BitsBase.lean ====
/- What the two runs of the kernel body, over machine floats, share: the body's branch condition in closed form over the grid
   points, where the output windows are stored, and the staging and scratch memrefs. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3072 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x3072 .bf16 := Memref.whole cc0_scratch0
abbrev scM0_1 : Memref sig .tc .vmem S256x128 .f32 := Memref.whole cc0_scratch1
abbrev scM0_2 : Memref sig .tc .vmem S8x24x128 .i32 := Memref.whole cc0_scratch2
abbrev scM0_3 : Memref sig .tc .vmem S8x24x128 .i32 := Memref.whole cc0_scratch3
abbrev scM0_4 : Memref sig .tc .vmem S8x8x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.BitsRunA.lean ====
/- The run of the whole kernel body over machine floats at the first grid point, where the activations are quantised. -/
module

public import proofs.«01_k».proof.Proof.BitsBase

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4432000 in
/-- The body's triple IN CASE A (`scf.if` 0 taken: points 0): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : cond0_0 i)
    (x0 : Vec F S256x3072 .bf16) (x1 : Vec F S3072x128 .i32) (x2 : Vec F S24x128 .i32) (x3 : Vec F S24x1024 .i8) (x4 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_w4a8_linear i arg1 harg1 arg2 harg2 arg3 harg3 arg4 harg4 arg5 harg5 arg6 harg6 arg7 harg7 arg8 harg8 arg9 harg9 arg10 harg10 arg11 harg11 arg12 harg12 arg13 harg13) K := by
    intro E K
    simp only [cc0_w4a8_linear_eq_skeleton]; unfold cc0_w4a8_linear_skel
    simp only [k0_part196_eq_skeleton, k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part197_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part198_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.BitsRunB.lean ====
/- The run of the whole kernel body over machine floats at the later grid points. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3736000 in
/-- The body's triple IN CASE B (`scf.if` 0 not taken: points 1, 2, … 7: 7 of 8): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole) (arg4 : Memref sig .tc .vmem S24x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole) (arg9 : Memref sig .tc .vmem S256x3072 .bf16) (harg9 : arg9.IsWhole) (arg10 : Memref sig .tc .vmem S256x128 .f32) (harg10 : arg10.IsWhole) (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole) (hc0 : ¬cond0_0 i)
    (x0 : Vec F S256x3072 .bf16) (x1 : Vec F S3072x128 .i32) (x2 : Vec F S24x128 .i32) (x3 : Vec F S24x1024 .i8) (x4 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_w4a8_linear i arg1 harg1 arg2 harg2 arg3 harg3 arg4 harg4 arg5 harg5 arg6 harg6 arg7 harg7 arg8 harg8 arg9 harg9 arg10 harg10 arg11 harg11 arg12 harg12 arg13 harg13) K := by
    intro E K
    simp only [cc0_w4a8_linear_eq_skeleton]; unfold cc0_w4a8_linear_skel
    simp only [k0_part196_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part197_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part198_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.BitsFrame.lean ====
/- The frame of the kernel over machine floats: it runs from any memory, leaves its arguments as they were and every semaphore
   counter at zero. What it leaves in its outputs is not stated here. -/
module

public import proofs.«01_k».proof.Proof.BitsRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that says nothing of the outputs leaves the arguments as they were. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_forgotten m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Blocks.lean ====
/- The three result arrays after the run, in terms of what each grid point leaves: each as a fold over the points, and the run
   of the whole program stated with them. -/
module

public import proofs.«01_k».proof.Proof.Outs
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 8 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 8 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed5, outsAt0_B m c t h0]

/-- The index map sends distinct grid points to distinct block indices (decided over the 8 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S256x8192.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 8 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 8 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1) := by
  simp only [flushed6, outsAt0_B m c t h0]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S256x3072.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 8 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 8 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.2.1) := by
  simp only [flushed7, outsAt0_B m c t h0]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S2x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_v2_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S256x3072 .bf16) : Vec F S256x3072 .bf16 :=
  if h0 : n % 8 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2.2.2.1) 8 (fun n h => scAt0_0 m c n h (VS0_0.read (Elt F) VS0_0.junk)) (scAt0_0 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S256x128 .f32) : Vec F S256x128 .f32 :=
  if h0 : n % 8 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 1 HOLDS after point `t`: the fold of its run up to `t`, from the reset at the run's first point
    `8·(t / 8)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2 = Pipeline.accAt (fun n h => scAt0_1 m c n h (VS0_1.read (Elt F) VS0_1.junk)) (scAt0_1 m c) (8 * (t.val / 8)) (t.val % 8)
      (by have h1 := t.isLt; have h2 := Nat.div_add_mod t.val 8; omega) :=
  Pipeline.eq_accAt_of_mod (fun n h => (outsAt0 m c n h).2.2.2.2) 8 (fun n h => scAt0_1 m c n h (VS0_1.read (Elt F) VS0_1.junk)) (scAt0_1 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x1024 .bf16 × Vec F S256x3072 .i8 × Vec F S2x128 .f32 × Vec F S256x3072 .bf16 × Vec F S256x128 .f32 :=
  ((VO0_5.read (Elt F) VO0_5.junk, VO0_6.read (Elt F) VO0_6.junk, VO0_7.read (Elt F) VO0_7.junk, VS0_0.read (Elt F) VS0_0.junk, VS0_1.read (Elt F) VS0_1.junk) : Vec F S256x1024 .bf16 × Vec F S256x3072 .i8 × Vec F S2x128 .f32 × Vec F S256x3072 .bf16 × Vec F S256x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x1024 .bf16 × Vec F S256x3072 .i8 × Vec F S2x128 .f32 × Vec F S256x3072 .bf16 × Vec F S256x128 .f32) : Vec F S256x1024 .bf16 × Vec F S256x3072 .i8 × Vec F S2x128 .f32 × Vec F S256x3072 .bf16 × Vec F S256x128 .f32 :=
  if h0 : n % 8 = 0 then
    (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2 acc.2.1, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2 acc.2.2.1, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.1 acc.2.2.2.2)

/-- `stAt0` at a point of case A: that case's contents. -/
theorem stAt0_A (c : Dev nD) (t : Fin cfg0.N) (acc : Vec F S256x1024 .bf16 × Vec F S256x3072 .i8 × Vec F S2x128 .f32 × Vec F S256x3072 .bf16 × Vec F S256x128 .f32) (h0 : t.val % 8 = 0) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t)) :=
  (dif_pos h0).trans rfl

/-- `stAt0` at a point of case B: that case's contents, over `acc`. -/
theorem stAt0_B (c : Dev nD) (t : Fin cfg0.N) (acc : Vec F S256x1024 .bf16 × Vec F S256x3072 .i8 × Vec F S2x128 .f32 × Vec F S256x3072 .bf16 × Vec F S256x128 .f32) (h0 : ¬t.val % 8 = 0) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) acc.2.2.2.1 acc.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) acc.2.2.2.1 acc.2.2.2.2 acc.2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) acc.2.2.2.1 acc.2.2.2.2 acc.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) acc.2.2.2.1 acc.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) acc.2.2.2.1 acc.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 8 from N_0)
  have e := Pipeline.eq_accAt_of_mod (fun n h => outsAt0 m c n h) 8 (fun n h => stAt0 m c n h junk0) (stAt0 m c)
    (fun n h _ => by
      have hN := lt_of_lt_of_eq h (show cfg0.N = 8 from N_0)
      obtain rfl : n = 0 := by omega
      exact outsAt0_zero m c h)
    (fun n h _ => outsAt0_succ m c n h)
    (by decide) n hn (by have := Nat.div_add_mod n 8; omega)
  have hd : n / 8 = 0 := Nat.div_eq_of_lt hN
  have hm : n % 8 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S256x8192.Idx) : ℕ := 8 * ((i 0).val / 256 - 0) + 1 * ((i 1).val / 1024 - 0)
set_option backward.proofsInPublic true in
abbrev loc5Of (i : S256x8192.Idx) : S256x1024.Idx := fun a => match a with
  | ⟨0, _⟩ => ⟨(i 0).val % 256, Nat.mod_lt _ (by decide)⟩
  | ⟨1, _⟩ => ⟨(i 1).val % 1024, Nat.mod_lt _ (by decide)⟩
abbrev pt5Of (i : S256x8192.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v2_0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 7
    ∧ 8 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 1) (q1 : Fin 8) : Fin grid0.N :=
  ⟨8 * q0.val + 1 * q1.val, lt_of_lt_of_eq (by omega) N_0.symm⟩
theorem idx_onto5 : ∀ (q0 : Fin 1) (q1 : Fin 8), ∃ t : Fin cfg0.N, (cfg0.win 5).flush t = true ∧ win0_5.index t = ![q0.val + 0, q1.val + 0] :=
  fun q0 q1 => ⟨onto5Pt q0 q1, (by decide +kernel : ∀ (q0 : Fin 1) (q1 : Fin 8), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2⟩ := idx_facts5 t
  funext y
  have hy0 : (y 0).val < 256 := (y 0).isLt
  have hy1 : (y 1).val < 1024 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 1024 + 1 * (y 1).val := rfl
  have hr : run5Of (((cfg0.win 5).blk t).view.emb y) = t.val := by
    show 8 * ((((cfg0.win 5).blk t).view.emb y 0).val / 256 - 0) + 1 * ((((cfg0.win 5).blk t).view.emb y 1).val / 1024 - 0) = _
    rw [hb0, hb1]
    rw [show (win0_5.index t (0 : Fin 2) * 256 + 1 * (y 0).val) / 256 = win0_5.index t (0 : Fin 2) from by omega]; rw [show (win0_5.index t (1 : Fin 2) * 1024 + 1 * (y 1).val) / 1024 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 256 = (y 0).val; rw [hb0]; omega
    | ⟨1, _⟩ => show (((cfg0.win 5).blk t).view.emb y 1).val % 1024 = (y 1).val; rw [hb1]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S256x8192.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v2_0).slice (win0_5.rect t)).set ↔ _
  rw [View.set_slice_whole, Rect.mem_set_unit]
  exact Iff.rfl

/-- THE COVERED INDICES: in some flushing point's block iff inside the box those blocks fill. -/
theorem covered_iff5 (i : S256x8192.Idx) :
    (∃ t : Fin cfg0.N, (cfg0.win 5).flush t = true ∧ i ∈ ((cfg0.win 5).blk t).view.set) ↔ 0 ≤ (i 0).val ∧ (i 0).val < 256 ∧ 0 ≤ (i 1).val ∧ (i 1).val < 8192 := by
  constructor
  · rintro ⟨t, -, hi⟩
    rw [mem_blk5] at hi
    have b0 : win0_5.index t (0 : Fin 2) * 256 ≤ (i 0).val ∧ (i 0).val < win0_5.index t (0 : Fin 2) * 256 + 256 := hi 0
    have b1 : win0_5.index t (1 : Fin 2) * 1024 ≤ (i 1).val ∧ (i 1).val < win0_5.index t (1 : Fin 2) * 1024 + 1024 := hi 1
    obtain ⟨e0, e1, e2⟩ := idx_facts5 t
    omega
  · intro h
    have hi0 : (i 0).val < 256 := (i 0).isLt
    have hi1 : (i 1).val < 8192 := (i 1).isLt
    obtain ⟨t, hft, ht⟩ := idx_onto5 ⟨(i 0).val / 256 - 0, by omega⟩ ⟨(i 1).val / 1024 - 0, by omega⟩
    have q0 : win0_5.index t (0 : Fin 2) = (i 0).val / 256 - 0 + 0 := congrFun ht 0
    have q1 : win0_5.index t (1 : Fin 2) = (i 1).val / 1024 - 0 + 0 := congrFun ht 1
    refine ⟨t, hft, ?_⟩
    rw [mem_blk5]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 1024 ≤ (i 1).val ∧ (i 1).val < win0_5.index t (1 : Fin 2) * 1024 + 1024; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 256 := (i 0).isLt; have h1 : (i 1).val < 8192 := (i 1).isLt; omega))

/-! ## Output window 6 -/

/-- The block of the array that holds index `i`, numbered in the order the points write the blocks back (one every 8 points),
    `i`'s place in it, and the point that writes it back (the last of its 8). -/
abbrev run6Of (i : S256x3072.Idx) : ℕ := 1 * ((i 0).val / 256 - 0) + 1 * ((i 1).val / 3072 - 0)
set_option backward.proofsInPublic true in
abbrev loc6Of (i : S256x3072.Idx) : S256x3072.Idx := fun a => match a with
  | ⟨0, _⟩ => ⟨(i 0).val % 256, Nat.mod_lt _ (by decide)⟩
  | ⟨1, _⟩ => ⟨(i 1).val % 3072, Nat.mod_lt _ (by decide)⟩
abbrev pt6Of (i : S256x3072.Idx) : ℕ := 8 * run6Of i + 7

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v2_1) := fun i =>
  if h : pt6Of i < cfg0.N then
    (Pipeline.accAt (fun n h => stAt0 m c n h junk0) (stAt0 m c) 0 (pt6Of i) (by omega)).2.1 (loc6Of i)
  else V m c (Pipeline.arrRef spec0 6) i

/-- The printed index map, decided over the grid: output window 6's block indices stay in the box, and the block number
    read off them is the point's (`t / 8`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 0
    ∧ 1 * (win0_6.index t (0 : Fin 2) - 0) + 1 * (win0_6.index t (1 : Fin 2) - 0) = t.val / 8 :=
  (by decide +kernel : ∀ t : Fin grid0.N, _)

/-- Every block of the box is SOME flushing point's: `onto6Pt`, the point that writes back the block at place `q` of the box (the last point of its run). -/
abbrev onto6Pt (q0 : Fin 1) (q1 : Fin 1) : Fin grid0.N :=
  ⟨8 * (1 * q0.val + 1 * q1.val) + 7, lt_of_lt_of_eq (by omega) N_0.symm⟩
theorem idx_onto6 : ∀ (q0 : Fin 1) (q1 : Fin 1), ∃ t : Fin cfg0.N, (cfg0.win 6).flush t = true ∧ win0_6.index t = ![q0.val + 0, q1.val + 0] :=
  fun q0 q1 => ⟨onto6Pt q0 q1, (by decide +kernel : ∀ (q0 : Fin 1) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 8 = 7 := (flush0_6 t).mp hf
  obtain ⟨e0, e1, e2⟩ := idx_facts6 t
  funext y
  have hy0 : (y 0).val < 256 := (y 0).isLt
  have hy1 : (y 1).val < 3072 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 3072 + 1 * (y 1).val := rfl
  have hr : run6Of (((cfg0.win 6).blk t).view.emb y) = t.val / 8 := by
    show 1 * ((((cfg0.win 6).blk t).view.emb y 0).val / 256 - 0) + 1 * ((((cfg0.win 6).blk t).view.emb y 1).val / 3072 - 0) = _
    rw [hb0, hb1]
    rw [show (win0_6.index t (0 : Fin 2) * 256 + 1 * (y 0).val) / 256 = win0_6.index t (0 : Fin 2) from by omega]; rw [show (win0_6.index t (1 : Fin 2) * 3072 + 1 * (y 1).val) / 3072 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 256 = (y 0).val; rw [hb0]; omega
    | ⟨1, _⟩ => show (((cfg0.win 6).blk t).view.emb y 1).val % 3072 = (y 1).val; rw [hb1]; omega
  have hp : pt6Of (((cfg0.win 6).blk t).view.emb y) = t.val := by
    show 8 * run6Of (((cfg0.win 6).blk t).view.emb y) + 7 = _
    rw [hr]; have := Nat.div_add_mod t.val 8; omega
  show (Pipeline.accAt (fun n h => stAt0 m c n h junk0) (stAt0 m c) 0 t.val _).2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S256x3072.Idx) :
    i ∈ ((cfg0.win 6).blk t).view.set ↔ ∀ a : Fin 2, win0_6.index t a * S256x3072.size a ≤ (i a).val ∧ (i a).val < win0_6.index t a * S256x3072.size a + S256x3072.size a := by
  show i ∈ ((View.whole main_v2_1).slice (win0_6.rect t)).set ↔ _
  rw [View.set_slice_whole, Rect.mem_set_unit]
  exact Iff.rfl

/-- THE COVERED INDICES: in some flushing point's block iff inside the box those blocks fill. -/
theorem covered_iff6 (i : S256x3072.Idx) :
    (∃ t : Fin cfg0.N, (cfg0.win 6).flush t = true ∧ i ∈ ((cfg0.win 6).blk t).view.set) ↔ 0 ≤ (i 0).val ∧ (i 0).val < 256 ∧ 0 ≤ (i 1).val ∧ (i 1).val < 3072 := by
  constructor
  · rintro ⟨t, -, hi⟩
    rw [mem_blk6] at hi
    have b0 : win0_6.index t (0 : Fin 2) * 256 ≤ (i 0).val ∧ (i 0).val < win0_6.index t (0 : Fin 2) * 256 + 256 := hi 0
    have b1 : win0_6.index t (1 : Fin 2) * 3072 ≤ (i 1).val ∧ (i 1).val < win0_6.index t (1 : Fin 2) * 3072 + 3072 := hi 1
    obtain ⟨e0, e1, e2⟩ := idx_facts6 t
    omega
  · intro h
    have hi0 : (i 0).val < 256 := (i 0).isLt
    have hi1 : (i 1).val < 3072 := (i 1).isLt
    obtain ⟨t, hft, ht⟩ := idx_onto6 ⟨(i 0).val / 256 - 0, by omega⟩ ⟨(i 1).val / 3072 - 0, by omega⟩
    have q0 : win0_6.index t (0 : Fin 2) = (i 0).val / 256 - 0 + 0 := congrFun ht 0
    have q1 : win0_6.index t (1 : Fin 2) = (i 1).val / 3072 - 0 + 0 := congrFun ht 1
    refine ⟨t, hft, ?_⟩
    rw [mem_blk6]
    intro a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 3072 ≤ (i 1).val ∧ (i 1).val < win0_6.index t (1 : Fin 2) * 3072 + 3072; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 256 := (i 0).isLt; have h1 : (i 1).val < 3072 := (i 1).isLt; omega))

/-- Output 6 is written back ONCE, at the last point, and its block is its array: the array after the run is output 6's
    component of the fold over the whole grid — where a hand proof over this window starts. -/
theorem G6_last (c : Dev nD) :
    G6 m c = (Pipeline.accAt (fun n h => stAt0 m c n h junk0) (stAt0 m c) 0 7 (lt_of_lt_of_eq (by decide) N_0.symm)).2.1 := by
  funext i
  have hi0 : (i 0).val < 256 := (i 0).isLt
  have hi1 : (i 1).val < 3072 := (i 1).isLt
  have hp : pt6Of i = 7 := by
    show 8 * (1 * ((i 0).val / 256 - 0) + 1 * ((i 1).val / 3072 - 0)) + 7 = _
    omega
  have hl : loc6Of i = i := by
    funext a; apply Fin.ext
    match a with
    | ⟨0, _⟩ => show (i 0).val % 256 = (i 0).val; omega
    | ⟨1, _⟩ => show (i 1).val % 3072 = (i 1).val; omega
  unfold G6
  rw [dif_pos (by rw [hp]; exact lt_of_lt_of_eq (by decide) N_0.symm), hl, fold0_congr m c _ _ _ _ hp]

/-! ## Output window 7 -/

/-- The block of the array that holds index `i`, numbered in the order the points write the blocks back (one every 8 points),
    `i`'s place in it, and the point that writes it back (the last of its 8). -/
abbrev run7Of (i : S2x128.Idx) : ℕ := 1 * ((i 0).val / 2 - 0) + 1 * ((i 1).val / 128 - 0)
set_option backward.proofsInPublic true in
abbrev loc7Of (i : S2x128.Idx) : S2x128.Idx := fun a => match a with
  | ⟨0, _⟩ => ⟨(i 0).val % 2, Nat.mod_lt _ (by decide)⟩
  | ⟨1, _⟩ => ⟨(i 1).val % 128, Nat.mod_lt _ (by decide)⟩
abbrev pt7Of (i : S2x128.Idx) : ℕ := 8 * run7Of i + 7

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v2_2) := fun i =>
  if h : pt7Of i < cfg0.N then
    (Pipeline.accAt (fun n h => stAt0 m c n h junk0) (stAt0 m c) 0 (pt7Of i) (by omega)).2.2.1 (loc7Of i)
  else V m c (Pipeline.arrRef spec0 7) i

/-- The printed index map, decided over the grid: output window 7's block indices stay in the box, and the block number
    read off them is the point's (`t / 8`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 0
    ∧ 1 * (win0_7.index t (0 : Fin 2) - 0) + 1 * (win0_7.index t (1 : Fin 2) - 0) = t.val / 8 :=
  (by decide +kernel : ∀ t : Fin grid0.N, _)

/-- Every block of the box is SOME flushing point's: `onto7Pt`, the point that writes back the block at place `q` of the box (the last point of its run). -/
abbrev onto7Pt (q0 : Fin 1) (q1 : Fin 1) : Fin grid0.N :=
  ⟨8 * (1 * q0.val + 1 * q1.val) + 7, lt_of_lt_of_eq (by omega) N_0.symm⟩
theorem idx_onto7 : ∀ (q0 : Fin 1) (q1 : Fin 1), ∃ t : Fin cfg0.N, (cfg0.win 7).flush t = true ∧ win0_7.index t = ![q0.val + 0, q1.val + 0] :=
  fun q0 q1 => ⟨onto7Pt q0 q1, (by decide +kernel : ∀ (q0 : Fin 1) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 8 = 7 := (flush0_7 t).mp hf
  obtain ⟨e0, e1, e2⟩ := idx_facts7 t
  funext y
  have hy0 : (y 0).val < 2 := (y 0).isLt
  have hy1 : (y 1).val < 128 := (y 1).isLt
  have hb0 : (((cfg0.win 7).blk t).view.emb y 0).val = win0_7.index t (0 : Fin 2) * 2 + 1 * (y 0).val := rfl
  have hb1 : (((cfg0.win 7).blk t).view.emb y 1).val = win0_7.index t (1 : Fin 2) * 128 + 1 * (y 1).val := rfl
  have hr : run7Of (((cfg0.win 7).blk t).view.emb y) = t.val / 8 := by
    show 1 * ((((cfg0.win 7).blk t).view.emb y 0).val / 2 - 0) + 1 * ((((cfg0.win 7).blk t).view.emb y 1).val / 128 - 0) = _
    rw [hb0, hb1]
    rw [show (win0_7.index t (0 : Fin 2) * 2 + 1 * (y 0).val) / 2 = win0_7.index t (0 : Fin 2) from by omega]; rw [show (win0_7.index t (1 : Fin 2) * 128 + 1 * (y 1).val) / 128 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 2 = (y 0).val; rw [hb0]; omega
    | ⟨1, _⟩ => show (((cfg0.win 7).blk t).view.emb y 1).val % 128 = (y 1).val; rw [hb1]; omega
  have hp : pt7Of (((cfg0.win 7).blk t).view.emb y) = t.val := by
    show 8 * run7Of (((cfg0.win 7).blk t).view.emb y) + 7 = _
    rw [hr]; have := Nat.div_add_mod t.val 8; omega
  show (Pipeline.accAt (fun n h => stAt0 m c n h junk0) (stAt0 m c) 0 t.val _).2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S2x128.Idx) :
    i ∈ ((cfg0.win 7).blk t).view.set ↔ ∀ a : Fin 2, win0_7.index t a * S2x128.size a ≤ (i a).val ∧ (i a).val < win0_7.index t a * S2x128.size a + S2x128.size a := by
  show i ∈ ((View.whole main_v2_2).slice (win0_7.rect t)).set ↔ _
  rw [View.set_slice_whole, Rect.mem_set_unit]
  exact Iff.rfl

/-- THE COVERED INDICES: in some flushing point's block iff inside the box those blocks fill. -/
theorem covered_iff7 (i : S2x128.Idx) :
    (∃ t : Fin cfg0.N, (cfg0.win 7).flush t = true ∧ i ∈ ((cfg0.win 7).blk t).view.set) ↔ 0 ≤ (i 0).val ∧ (i 0).val < 2 ∧ 0 ≤ (i 1).val ∧ (i 1).val < 128 := by
  constructor
  · rintro ⟨t, -, hi⟩
    rw [mem_blk7] at hi
    have b0 : win0_7.index t (0 : Fin 2) * 2 ≤ (i 0).val ∧ (i 0).val < win0_7.index t (0 : Fin 2) * 2 + 2 := hi 0
    have b1 : win0_7.index t (1 : Fin 2) * 128 ≤ (i 1).val ∧ (i 1).val < win0_7.index t (1 : Fin 2) * 128 + 128 := hi 1
    obtain ⟨e0, e1, e2⟩ := idx_facts7 t
    omega
  · intro h
    have hi0 : (i 0).val < 2 := (i 0).isLt
    have hi1 : (i 1).val < 128 := (i 1).isLt
    obtain ⟨t, hft, ht⟩ := idx_onto7 ⟨(i 0).val / 2 - 0, by omega⟩ ⟨(i 1).val / 128 - 0, by omega⟩
    have q0 : win0_7.index t (0 : Fin 2) = (i 0).val / 2 - 0 + 0 := congrFun ht 0
    have q1 : win0_7.index t (1 : Fin 2) = (i 1).val / 128 - 0 + 0 := congrFun ht 1
    refine ⟨t, hft, ?_⟩
    rw [mem_blk7]
    intro a
    match a with
    | ⟨0, _⟩ => show win0_7.index t (0 : Fin 2) * 2 ≤ (i 0).val ∧ (i 0).val < win0_7.index t (0 : Fin 2) * 2 + 2; omega
    | ⟨1, _⟩ => show win0_7.index t (1 : Fin 2) * 128 ≤ (i 1).val ∧ (i 1).val < win0_7.index t (1 : Fin 2) * 128 + 128; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 2 := (i 0).isLt; have h1 : (i 1).val < 128 := (i 1).isLt; omega))

/-- Output 7 is written back ONCE, at the last point, and its block is its array: the array after the run is output 7's
    component of the fold over the whole grid — where a hand proof over this window starts. -/
theorem G7_last (c : Dev nD) :
    G7 m c = (Pipeline.accAt (fun n h => stAt0 m c n h junk0) (stAt0 m c) 0 7 (lt_of_lt_of_eq (by decide) N_0.symm)).2.2.1 := by
  funext i
  have hi0 : (i 0).val < 2 := (i 0).isLt
  have hi1 : (i 1).val < 128 := (i 1).isLt
  have hp : pt7Of i = 7 := by
    show 8 * (1 * ((i 0).val / 2 - 0) + 1 * ((i 1).val / 128 - 0)) + 7 = _
    omega
  have hl : loc7Of i = i := by
    funext a; apply Fin.ext
    match a with
    | ⟨0, _⟩ => show (i 0).val % 2 = (i 0).val; omega
    | ⟨1, _⟩ => show (i 1).val % 128 = (i 1).val; omega
  unfold G7
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2_0) = G5 m c
      ∧ r.2.mem ((c : Thread nD τ).loc main_v2_1) = G6 m c
      ∧ r.2.mem ((c : Thread nD τ).loc main_v2_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.Words.lean ====
/- The lane indices the kernel gathers by: the floor division and the floor remainder the kernel spells with signed
   words, as functions of vectors, and what the gathers by them read. Every index is a function of the lane alone, so
   each fact is one check over the 128 lanes. -/
module

public import Idealize.ShloMosaic.Lib.ValueIdx
public import Idealize.ShloMosaic.Lib.Pipeline.Value

@[expose] public section

set_option maxRecDepth 16384

namespace Cert.W4A8

open Idealize.ShloMosaic Idealize.ShloMosaic.ValueIdx

/-- A vector of `n` rows of 128 lanes. -/
abbrev L (n : Nat) : Shape := ⟨2, ![n, 128]⟩

variable {n : Nat}

/-- The lane of each element. -/
def lane (n : Nat) (h : (L n).Iotas .tc 32 [1]) : IVec (L n) 32 := iota .tc (L n) 32 [1] h

/-- The quotient by `k` rounded down, in signed words. -/
def fdiv {s : Shape} (k : BitVec 32) (v : IVec s 32) (hw : 1 < 32) : IVec s 32 :=
  select (andi (cmpi .ne (subi (extui 32 (cmpi .sgt v (broadcast s 0#32)) hw) (extui 32 (cmpi .slt v (broadcast s 0#32)) hw))
        (broadcast s (Scalar.subi (Scalar.extui (Scalar.cmpi .sgt k 0#32)) (Scalar.extui (Scalar.cmpi .slt k 0#32)))))
      (cmpi .ne (remsi v (broadcast s k)) (broadcast s 0#32)))
    (subi (divsi v (broadcast s k)) (broadcast s 1#32)) (divsi v (broadcast s k))

/-- The modulus, one for zero. -/
def modk (k : BitVec 32) : BitVec 32 := Scalar.select (Scalar.cmpi .eq k 0#32) 1#32 k

/-- A signed remainder moved to the modulus' sign. -/
def fmodOf {s : Shape} (k : BitVec 32) (r : IVec s 32) (hb : s.Broadcasts s) : IVec s 32 :=
  select (andi (xori (cmpi .slt r (broadcast s 0#32)) (broadcastTo s (broadcast s (Scalar.cmpi .slt k 0#32)) hb))
      (cmpi .ne r (broadcast s 0#32)))
    (addi r (broadcast s k)) r

/-- The remainder by `k` of the divisor's sign. -/
def fmod {s : Shape} (k : BitVec 32) (v : IVec s 32) (hb : s.Broadcasts s) : IVec s 32 :=
  fmodOf (modk k) (remsi v (broadcast s (modk k))) hb

/-- A gather along the lanes: a negative index counted from the end, the index passed through a shape of one more axis. -/
def gatherLanes {α : Type} (x : (L n).Idx → α) (v : IVec (L n) 32) (h : (L n).ShapeCasts ⟨3, ![n, 128, 1]⟩)
    (h' : (⟨3, ![n, 128, 1]⟩ : Shape).ShapeCasts (L n)) : (L n).Idx → α :=
  dynamicGather (s := L n) 1 x (shapeCast (L n) (shapeCast ⟨3, ![n, 128, 1]⟩
    (select (cmpi .slt v (broadcast (L n) 0#32)) (addi v (broadcast (L n) 128#32)) v) h) h')

/-- The index that brings rows `2i`, `2i + 1` of a group of 128 from its two halves. -/
def pairIdx (v : IVec (L n) 32) (hw : 1 < 32) (hb : (L n).Broadcasts (L n)) : IVec (L n) 32 :=
  addi (fdiv 2#32 v hw) (muli (fmod 2#32 v hb) (broadcast (L n) 64#32))

/-- The index that reads lane `8 (lane mod 16) + (lane / 16 - c) mod 8`. -/
def spreadIdx (c : BitVec 32) (v : IVec (L n) 32) (hw : 1 < 32) (hb : (L n).Broadcasts (L n)) : IVec (L n) 32 :=
  addi (muli (broadcast (L n) 8#32) (fmod 16#32 v hb)) (fmod 8#32 (subi (fdiv 16#32 v hw) (broadcast (L n) c)) hb)

/-- The index that reads lane `16 ((lane mod 8 + c) mod 8) + lane / 8`. -/
def gatherIdx (c : BitVec 32) (v : IVec (L n) 32) (hw : 1 < 32) (hb : (L n).Broadcasts (L n)) : IVec (L n) 32 :=
  addi (muli (broadcast (L n) 16#32) (fmod 8#32 (addi (fmod 8#32 v hb) (broadcast (L n) c)) hb)) (fdiv 8#32 v hw)

/-- Bit `b` of the number of a lane's block of sixteen. -/
def blockMask (b : BitVec 32) (v : IVec (L n) 32) (hw : 1 < 32) : IVec (L n) 1 :=
  cmpi .eq (andi (shrsi (fdiv 16#32 v hw) (broadcast (L n) b)) (broadcast (L n) 1#32)) (broadcast (L n) 1#32)

/-! ## What they read -/

/-- A one-lane vector: the index functions act lane by lane, so on it they are functions of a word. -/
abbrev One : Shape := ⟨0, ![]⟩

/-- The pairing index of a lane, as a word. -/
def pairWord (w : BitVec 32) : BitVec 32 :=
  addi (fdiv (s := One) 2#32 (fun _ => w) (by decide)) (muli (fmod (s := One) 2#32 (fun _ => w) (by decide)) (broadcast One 64#32)) ix0

/-- The spreading index of a lane, as a word. -/
def spreadWord (c w : BitVec 32) : BitVec 32 :=
  addi (muli (broadcast One 8#32) (fmod (s := One) 16#32 (fun _ => w) (by decide)))
    (fmod (s := One) 8#32 (subi (fdiv (s := One) 16#32 (fun _ => w) (by decide)) (broadcast One c)) (by decide)) ix0

/-- The collecting index of a lane, as a word. -/
def gatherWord (c w : BitVec 32) : BitVec 32 :=
  addi (muli (broadcast One 16#32) (fmod (s := One) 8#32 (addi (fmod (s := One) 8#32 (fun _ => w) (by decide)) (broadcast One c)) (by decide)))
    (fdiv (s := One) 8#32 (fun _ => w) (by decide)) ix0

/-- The block bit of a lane, as a word. -/
def maskWord (b w : BitVec 32) : BitVec 1 :=
  cmpi .eq (andi (shrsi (fdiv (s := One) 16#32 (fun _ => w) (by decide)) (broadcast One b)) (broadcast One 1#32)) (broadcast One 1#32) ix0

/-- A word as a lane: a negative one counted from the end. -/
def wrapWord (w : BitVec 32) : BitVec 32 := Scalar.select (IntOp.cmpi .slt w 0#32) (w + 128#32) w

theorem pairWord_lane : ∀ l : Fin 128, (wrapWord (pairWord (BitVec.ofNat 32 l.val))).toNat % 128 = l.val / 2 + l.val % 2 * 64 := by
  decide +kernel

theorem spreadWord_lane : ∀ (c : Fin 8) (l : Fin 128), (wrapWord (spreadWord (BitVec.ofNat 32 c.val) (BitVec.ofNat 32 l.val))).toNat % 128
    = 8 * (l.val % 16) + (l.val / 16 + 8 - c.val) % 8 := by
  decide +kernel

theorem gatherWord_lane : ∀ (c : Fin 8) (l : Fin 128), (wrapWord (gatherWord (BitVec.ofNat 32 c.val) (BitVec.ofNat 32 l.val))).toNat % 128
    = 16 * ((l.val + c.val) % 8) + l.val / 8 := by
  decide +kernel

theorem maskWord_lane : ∀ (b : Fin 3) (l : Fin 128), maskWord (BitVec.ofNat 32 b.val) (BitVec.ofNat 32 l.val)
    = if (l.val / 16) >>> b.val % 2 = 1 then 1#1 else 0#1 := by
  decide +kernel

theorem lane_apply (h : (L n).Iotas .tc 32 [1]) (j : (L n).Idx) : lane n h j = BitVec.ofNat 32 (j 1).val := by
  simp [lane, iota]

theorem gatherLanes_apply {α : Type} (x : (L n).Idx → α) (v : IVec (L n) 32) (h h') (j : (L n).Idx) (k : Fin 128)
    (hk : (wrapWord (v j)).toNat % 128 = k.val) : gatherLanes x v h h' j = x (ix2 (j 0) k) := by
  unfold gatherLanes dynamicGather
  rw [shapeCast_shapeCast]
  congr 1
  funext b
  match b with
  | ⟨0, _⟩ => rfl
  | ⟨1, _⟩ => exact Fin.ext hk

/-- The pairing gather: lane `l` reads lane `l / 2` of the half `l mod 2`. -/
theorem gather_pair {α : Type} (x : (L n).Idx → α) (hi) (hw hb h h') (j : (L n).Idx) (k : Fin 128)
    (hk : k.val = (j 1).val / 2 + (j 1).val % 2 * 64) :
    gatherLanes x (pairIdx (lane n hi) hw hb) h h' j = x (ix2 (j 0) k) := by
  refine gatherLanes_apply x _ h h' j k ?_
  have e : pairIdx (lane n hi) hw hb j = pairWord (lane n hi j) := rfl
  rw [e, lane_apply, hk]
  exact pairWord_lane (j 1)

/-- The spreading gather of a column block. -/
theorem gather_spread {α : Type} (x : (L n).Idx → α) (hi) (hw hb h h') (c : Fin 8) (j : (L n).Idx) (k : Fin 128)
    (hk : k.val = 8 * ((j 1).val % 16) + ((j 1).val / 16 + 8 - c.val) % 8) :
    gatherLanes x (spreadIdx (BitVec.ofNat 32 c.val) (lane n hi) hw hb) h h' j = x (ix2 (j 0) k) := by
  refine gatherLanes_apply x _ h h' j k ?_
  have e : spreadIdx (BitVec.ofNat 32 c.val) (lane n hi) hw hb j = spreadWord (BitVec.ofNat 32 c.val) (lane n hi j) := rfl
  rw [e, lane_apply, hk]
  exact spreadWord_lane c (j 1)

/-- The collecting gather of a column block. -/
theorem gather_collect {α : Type} (x : (L n).Idx → α) (hi) (hw hb h h') (c : Fin 8) (j : (L n).Idx) (k : Fin 128)
    (hk : k.val = 16 * (((j 1).val + c.val) % 8) + (j 1).val / 8) :
    gatherLanes x (gatherIdx (BitVec.ofNat 32 c.val) (lane n hi) hw hb) h h' j = x (ix2 (j 0) k) := by
  refine gatherLanes_apply x _ h h' j k ?_
  have e : gatherIdx (BitVec.ofNat 32 c.val) (lane n hi) hw hb j = gatherWord (BitVec.ofNat 32 c.val) (lane n hi j) := rfl
  rw [e, lane_apply, hk]
  exact gatherWord_lane c (j 1)

/-- A choice by a block bit. -/
theorem select_mask {α : Type} (x y : (L n).Idx → α) (hi) (hw) (b : Fin 3) (j : (L n).Idx) :
    select (blockMask (BitVec.ofNat 32 b.val) (lane n hi) hw) x y j
      = if ((j 1).val / 16) >>> b.val % 2 = 1 then x j else y j := by
  have e : blockMask (BitVec.ofNat 32 b.val) (lane n hi) hw j = maskWord (BitVec.ofNat 32 b.val) (lane n hi j) := rfl
  rw [select_apply, e, lane_apply, maskWord_lane b (j 1)]
  split <;> rfl

end Cert.W4A8

end
-- ==== Proof.Shuffle.lean ====
/- The three-round barrel shift over eight vectors, and the two permutations built from it: eight planes taken out of
   1024 interleaved columns, and eight planes put back into them. -/
module

public import proofs.«01_k».proof.Proof.Words

@[expose] public section

set_option maxRecDepth 16384

namespace Cert.W4A8

open Idealize.ShloMosaic Idealize.ShloMosaic.ValueIdx

variable {n : Nat} {α : Type}

/-- A rotation of the lanes. -/
def roll (k : BitVec 32) (x : (L n).Idx → α) (h : (L n).Rotates 1 none) : (L n).Idx → α :=
  dynamicRotate (s := L n) 1 k none x h

theorem roll_apply (k : BitVec 32) (x : (L n).Idx → α) (h) (j : (L n).Idx) (l : Fin 128)
    (hl : l.val = ((j 1).val + 128 - k.toNat % 128) % 128) : roll k x h j = x (ix2 (j 0) l) := by
  show x _ = x _
  congr 1
  funext b
  match b with
  | ⟨0, _⟩ => rfl
  | ⟨1, _⟩ => exact Fin.ext hl.symm

/-- One round of the barrel shift: where the mask is set, the vector `d` before. -/
def round (m : IVec (L n) 1) (d : Fin 8) (vs : Fin 8 → (L n).Idx → α) : Fin 8 → (L n).Idx → α :=
  fun i => select m (vs (i - d)) (vs i)

/-- The three rounds. -/
def barrel (v : IVec (L n) 32) (hw : 1 < 32) (vs : Fin 8 → (L n).Idx → α) : Fin 8 → (L n).Idx → α :=
  round (blockMask 2#32 v hw) 4 (round (blockMask 1#32 v hw) 2 (round (blockMask 0#32 v hw) 1 vs))

theorem shift_bits : ∀ (i : Fin 8) (q : Fin 8),
    (if q.val >>> 2 % 2 = 1 then (if q.val >>> 1 % 2 = 1 then (if q.val >>> 0 % 2 = 1 then i - 4 - 2 - 1 else i - 4 - 2)
        else (if q.val >>> 0 % 2 = 1 then i - 4 - 1 else i - 4))
      else (if q.val >>> 1 % 2 = 1 then (if q.val >>> 0 % 2 = 1 then i - 2 - 1 else i - 2)
        else (if q.val >>> 0 % 2 = 1 then i - 1 else i))) = i - q := by
  decide

/-- The barrel shift moves each block of sixteen lanes by its own number. -/
theorem barrel_apply (hi) (hw) (vs : Fin 8 → (L n).Idx → α) (i : Fin 8) (j : (L n).Idx) (q : Fin 8)
    (hq : q.val = (j 1).val / 16) : barrel (lane n hi) hw vs i j = vs (i - q) j := by
  have e0 := fun x y : (L n).Idx → α => select_mask x y hi hw 0 j
  have e1 := fun x y : (L n).Idx → α => select_mask x y hi hw 1 j
  have e2 := fun x y : (L n).Idx → α => select_mask x y hi hw 2 j
  rw [← hq] at e0 e1 e2
  unfold barrel round
  rw [show (2#32 : BitVec 32) = BitVec.ofNat 32 (2 : Fin 3).val from rfl, show (1#32 : BitVec 32) = BitVec.ofNat 32 (1 : Fin 3).val from rfl,
    show (0#32 : BitVec 32) = BitVec.ofNat 32 (0 : Fin 3).val from rfl]
  rw [← shift_bits i q]
  simp only [e0, e1, e2]
  change (if q.val >>> 2 % 2 = 1 then (if q.val >>> 1 % 2 = 1 then (if q.val >>> 0 % 2 = 1 then _ else _) else (if q.val >>> 0 % 2 = 1 then _ else _))
      else (if q.val >>> 1 % 2 = 1 then (if q.val >>> 0 % 2 = 1 then _ else _) else (if q.val >>> 0 % 2 = 1 then _ else _))) = _
  split_ifs <;> rfl

/-- Plane `r` of eight column blocks, before the rotation that aligns it. -/
def planeRaw (hi : (L n).Iotas .tc 32 [1]) (hw : 1 < 32) (hb : (L n).Broadcasts (L n)) (h : (L n).ShapeCasts ⟨3, ![n, 128, 1]⟩)
    (h' : (⟨3, ![n, 128, 1]⟩ : Shape).ShapeCasts (L n)) (cols : Fin 8 → (L n).Idx → α) : Fin 8 → (L n).Idx → α :=
  barrel (lane n hi) hw fun i => gatherLanes (cols (-i)) (spreadIdx (BitVec.ofNat 32 (-i).val) (lane n hi) hw hb) h h'

theorem planeRaw_apply (hi hw hb h h') (cols : Fin 8 → (L n).Idx → α) (r : Fin 8) (j : (L n).Idx) (c : Fin 8) (k : Fin 128)
    (hc : c.val = ((j 1).val / 16 + 8 - r.val) % 8) (hk : k.val = 8 * ((j 1).val % 16) + r.val) :
    planeRaw hi hw hb h h' cols r j = cols c (ix2 (j 0) k) := by
  have hj : (j 1).val < 128 := idx2_lt1 j
  have hr := r.isLt
  unfold planeRaw
  rw [barrel_apply hi hw _ r j ⟨(j 1).val / 16, by omega⟩ rfl]
  have ec : -(r - ⟨(j 1).val / 16, by omega⟩ : Fin 8) = c := by
    apply Fin.ext
    rw [hc]
    simp only [Fin.neg_def, Fin.sub_def]
    omega
  rw [ec]
  refine gather_spread _ hi hw hb h h' c j k ?_
  rw [hk, hc]
  omega

theorem aligned_block : ∀ (l : Fin 128) (r : Fin 8), ((l.val + 16 * r.val) % 128 / 16 + 8 - r.val) % 8 = l.val / 16 := by
  decide

/-- Plane `r`, aligned: lane `p` of it is column `8 p + r` of the 1024. -/
theorem plane_apply (hi hw hb h h' hr) (cols : Fin 8 → (L n).Idx → α) (r : Fin 8) (j : (L n).Idx) (c : Fin 8) (k : Fin 128)
    (hc : c.val = (j 1).val / 16) (hk : k.val = 8 * ((j 1).val % 16) + r.val) :
    roll (BitVec.ofNat 32 (128 - 16 * r.val)) (planeRaw hi hw hb h h' cols r) hr j = cols c (ix2 (j 0) k) := by
  have hj : (j 1).val < 128 := idx2_lt1 j
  have hr8 := r.isLt
  rw [roll_apply _ _ hr j ⟨((j 1).val + 16 * r.val) % 128, Nat.mod_lt _ (by decide)⟩ (by
    rw [BitVec.toNat_ofNat]; show _ % 128 = _; omega)]
  refine planeRaw_apply hi hw hb h h' cols r _ c k ?_ ?_
  · show c.val = (((j 1).val + 16 * r.val) % 128 / 16 + 8 - r.val) % 8
    rw [hc]; exact (aligned_block (j 1) r).symm
  · show k.val = 8 * (((j 1).val + 16 * r.val) % 128 % 16) + r.val
    rw [hk]; omega

/-- The eight planes rotated and barrel-shifted: what the collecting gather reads. -/
def mixed (hi : (L n).Iotas .tc 32 [1]) (hw : 1 < 32) (hr : (L n).Rotates 1 none) (planes : Fin 8 → (L n).Idx → α) :
    Fin 8 → (L n).Idx → α :=
  barrel (lane n hi) hw fun m => if m = 0 then planes 0 else roll (BitVec.ofNat 32 (16 * (-m).val)) (planes (-m)) hr

theorem mixed_apply (hi hw hr) (planes : Fin 8 → (L n).Idx → α) (m : Fin 8) (j : (L n).Idx) (r : Fin 8) (k : Fin 128)
    (hr' : r.val = ((j 1).val / 16 + 8 - m.val) % 8) (hk : k.val = 16 * m.val + (j 1).val % 16) :
    mixed hi hw hr planes m j = planes r (ix2 (j 0) k) := by
  have hj : (j 1).val < 128 := idx2_lt1 j
  have hm := m.isLt
  unfold mixed
  rw [barrel_apply hi hw _ m j ⟨(j 1).val / 16, by omega⟩ rfl]
  have er : -(m - ⟨(j 1).val / 16, by omega⟩ : Fin 8) = r := by
    apply Fin.ext
    rw [hr']
    simp only [Fin.neg_def, Fin.sub_def]
    omega
  split
  · rename_i h0
    have e0 : r = 0 := by rw [← er, h0]; rfl
    subst e0
    congr 1
    rw [eq_ix2 j]
    congr 1
    apply Fin.ext
    have h0' : (m - ⟨(j 1).val / 16, by omega⟩ : Fin 8).val = 0 := by rw [h0]; rfl
    simp only [Fin.sub_def] at h0'
    show (j 1).val = k.val
    rw [hk]; omega
  · rw [er]
    refine roll_apply _ _ hr j k ?_
    rw [BitVec.toNat_ofNat, hk, hr']
    show _ = ((j 1).val + 128 - _ % 128) % 128
    omega

end Cert.W4A8

end
-- ==== Proof.Body.lean ====
/- What one point of the grid computes, as functions of the vectors it loads: the dequantised weight tiles, the four
   accumulators, the scaled planes and the eight column blocks of the output, and the three tables (scale words, zero words,
   channel scales) the point builds first. -/
module

public import proofs.«01_k».proof.Proof.Shuffle
public import proofs.«01_k».proof.Proof.Gen.KernelIdeal.Skeleton

@[expose] public section

set_option maxRecDepth 16384

noncomputable section

namespace Cert.KernelIdeal.Body

open Idealize.ShloMosaic Idealize.ShloMosaic.ValueIdx Cert.W4A8 Cert.KernelIdeal.Gen

variable {F : FTy → Type} [FloatOps F]

/-! ## The tables -/

/-- The bits of a number below 256 as a float, by its highest set bit. -/
def floatBits (n : IVec S24x128 32) : IVec S24x128 32 :=
  let step (t sh add : BitVec 32) (rest : IVec S24x128 32) :=
    select (cmpi .sge n (broadcast S24x128 t)) (addi (shli n (broadcast S24x128 sh)) (broadcast S24x128 add)) rest
  step 128#32 16#32 1115684864#32 (step 64#32 17#32 1107296256#32 (step 32#32 18#32 1098907648#32 (step 16#32 19#32 1090519040#32
    (step 8#32 20#32 1082130432#32 (step 4#32 21#32 1073741824#32 (step 2#32 22#32 1065353216#32 (step 1#32 23#32 1056964608#32
      (broadcast S24x128 0#32))))))))

/-- A word of scales: the bf16 bits of the scale in both halves. -/
def scaleWord (n : IVec S24x128 32) : IVec S24x128 32 :=
  ori (floatBits n) (shrui (floatBits n) (broadcast S24x128 16#32))

/-- A word of zeros: 128 plus the zero, as bf16 bits, in both halves. -/
def zeroWord (z : IVec S24x128 32) (k : BitVec 32) : IVec S24x128 32 :=
  let n := andi (shrui z (broadcast S24x128 k)) (broadcast S24x128 15#32)
  ori (ori n (shli n (broadcast S24x128 16#32))) (broadcast S24x128 1124090624#32)

/-- Column block `c` of a 24 × 1024 vector. -/
def cols24 (x : IVec S24x1024 32) (c : Fin 8) : IVec S24x128 32 :=
  extractStridedSlice S24x128 ![0, 128 * c.val] x (by revert c; decide)

/-- Column block `c` of a 8 × 1024 vector. -/
def cols8 (x : FVec F S8x1024 .f32) (c : Fin 8) : FVec F S8x128 .f32 :=
  extractStridedSlice S8x128 ![0, 128 * c.val] x (by revert c; decide)

/-- Plane `r`: the columns `8 p + r` of 1024, lane by lane. -/
def aligned {n : Nat} {α : Type} (hi : (L n).Iotas .tc 32 [1]) (hb : (L n).Broadcasts (L n)) (h : (L n).ShapeCasts ⟨3, ![n, 128, 1]⟩)
    (h' : (⟨3, ![n, 128, 1]⟩ : Shape).ShapeCasts (L n)) (hr : (L n).Rotates 1 none) (cols : Fin 8 → (L n).Idx → α) (r : Fin 8) : (L n).Idx → α :=
  if r = 0 then planeRaw hi natLt_1_32 hb h h' cols r
  else roll (BitVec.ofNat 32 (128 - 16 * r.val)) (planeRaw hi natLt_1_32 hb h h' cols r) hr

/-- The scales of residue `r`, as numbers. -/
def scalePlane (x : IVec S24x1024 8) (r : Fin 8) : IVec S24x128 32 :=
  aligned iota_S24x128_d1_w32 broadcasts_S24x128_S24x128 shapeCasts_S24x128_S24x128x1 shapeCasts_S24x128x1_S24x128 rotates_S24x128_d1
    (cols24 (extui 32 x natLt_8_32)) r

/-- The channel scales of residue `r`, on eight equal rows. -/
def chanPlane (x : FVec F S1x1024 .f32) (r : Fin 8) : FVec F S8x128 .f32 :=
  aligned iota_S8x128_d1_w32 broadcasts_S8x128_S8x128 shapeCasts_S8x128_S8x128x1 shapeCasts_S8x128x1_S8x128 rotates_S8x128_d1
    (cols8 (broadcastTo S8x1024 (shapeCast S1x1024 (shapeCast S1x1024 x (by decide)) (by decide)) broadcasts_S1x1024_S8x1024)) r

/-- The bit a residue's nibble starts at in its word. -/
def fieldShift (r : Fin 8) : BitVec 32 := BitVec.ofNat 32 (4 * (r.val / 2 + 4 * (r.val % 2)))

/-- Eight planes of 24 rows stored one after the other, the last first. -/
def stack24 (v : Fin 8 → IVec S24x128 32) : List (View.Piece (Elt F) S8x24x128 .i32) :=
  [7, 6, 5, 4, 3, 2, 1, 0].map fun r : Fin 8 =>
    ⟨Rect.unit ![r.val, 0, 0] S1x24x128.size (by revert r; decide), shapeCast S1x24x128 (v r) shapeCasts_S24x128_S1x24x128⟩

/-- Eight planes of 8 rows stored one after the other, the last first. -/
def stack8 (v : Fin 8 → FVec F S8x128 .f32) : List (View.Piece (Elt F) S8x8x128 .f32) :=
  [7, 6, 5, 4, 3, 2, 1, 0].map fun r : Fin 8 =>
    ⟨Rect.unit ![r.val, 0, 0] S1x8x128.size (by revert r; decide), shapeCast S1x8x128 (v r) shapeCasts_S8x128_S1x8x128⟩

/-! ## One weight tile -/

/-- The words of the even residues: the low halves of the words of both halves of a group. -/
def wordLo (a b : IVec S64x128 32) : IVec S64x128 32 :=
  ori (andi a (broadcast S64x128 65535#32)) (shli b (broadcast S64x128 16#32))

/-- The words of the odd residues: the high halves. -/
def wordHi (a b : IVec S64x128 32) : IVec S64x128 32 :=
  ori (shrui a (broadcast S64x128 16#32)) (andi b (broadcast S64x128 4294901760#32))

/-- The words with nibble `f` of each half moved to the bottom. -/
def shifted (w : IVec S64x128 32) : Fin 4 → IVec S64x128 32 := fun f => match f with
  | 0 => w
  | 1 => shrui w (broadcast S64x128 4#32)
  | 2 => shrui w (broadcast S64x128 8#32)
  | 3 => shrui w (broadcast S64x128 12#32)

/-- A row of table words on 64 rows. -/
def rows64 (z : IVec S1x1x128 32) : IVec S64x128 32 :=
  broadcastTo S64x128 (shapeCast S1x128 (shapeCast S1x128 z shapeCasts_S1x1x128_S1x128) shapeCasts_S1x128_S1x128) broadcasts_S1x128_S64x128

/-- The two bf16 rows of each row of words. -/
def halves (w : IVec S64x128 32) : FVec F S128x128 .bf16 :=
  bitcastToFloat .bf16 (bitcast S128x128 16 w bitcasts_S64x128_w32_S128x128_w16)

/-- One dequantised group of one residue. -/
def dequant (t : IVec S64x128 32) (z s : IVec S1x1x128 32) : FVec F S128x128 .bf16 :=
  mulf (subf (halves (ori (andi t (broadcast S64x128 983055#32)) (broadcast S64x128 1124090624#32))) (halves (rows64 z))) (halves (rows64 s))

/-- The residues `2 p` and `2 p + 1`. -/
def even (p : Fin 4) : Fin 8 := ⟨2 * p.val, by omega⟩
def odd (p : Fin 4) : Fin 8 := ⟨2 * p.val + 1, by omega⟩

/-- The groups `2 k` and `2 k + 1`. -/
def grp0 (k : Fin 12) : Fin 24 := ⟨2 * k.val, by omega⟩
def grp1 (k : Fin 12) : Fin 24 := ⟨2 * k.val + 1, by omega⟩

/-- The vectors a point loads for its products: the two halves of each group's words, the table rows of zeros and scales, and the
    tiles of the codes. -/
structure Loads (F : FTy → Type) where
  a : Fin 24 → IVec S64x128 32
  b : Fin 24 → IVec S64x128 32
  z : Fin 8 → Fin 24 → IVec S1x1x128 32
  s : Fin 8 → Fin 24 → IVec S1x1x128 32
  x : Fin 12 → FVec F S256x256 .bf16

variable (V : Loads F)

/-- The dequantised weights of group `g` for the residues `2 p` and `2 p + 1`. -/
def evenTile (p : Fin 4) (g : Fin 24) : FVec F S128x128 .bf16 :=
  dequant (shifted (wordLo (V.a g) (V.b g)) p) (V.z (even p) g) (V.s (even p) g)
def oddTile (p : Fin 4) (g : Fin 24) : FVec F S128x128 .bf16 :=
  dequant (shifted (wordHi (V.a g) (V.b g)) p) (V.z (odd p) g) (V.s (odd p) g)

/-- The 256 × 256 weight tile of two groups and two residues. -/
def rhs (p : Fin 4) (k : Fin 12) : FVec F S256x256 .bf16 :=
  concatenate S256x256 1
    [⟨S256x128, concatenate S256x128 0 [⟨S128x128, evenTile V p (grp0 k)⟩, ⟨S128x128, evenTile V p (grp1 k)⟩] concatenates_S128x128_S128x128_S256x128_d0⟩,
     ⟨S256x128, concatenate S256x128 0 [⟨S128x128, oddTile V p (grp0 k)⟩, ⟨S128x128, oddTile V p (grp1 k)⟩] concatenates_S128x128_S128x128_S256x128_d0⟩]
    concatenates_S256x128_S256x128_S256x256_d1

/-- One tile's product. -/
def prod (p : Fin 4) (k : Fin 12) : FVec F S256x256 .f32 :=
  matmul dot_S256x256_S256x256_S256x256_1_0_0_1_n_n none (V.x k) (rhs V p k) (constant S256x256 .f32 0#32)

/-- Accumulator `p`: the twelve products added in order. -/
def acc (p : Fin 4) : FVec F S256x256 .f32 :=
  addf (addf (addf (addf (addf (addf (addf (addf (addf (addf (addf (prod V p 0) (prod V p 1)) (prod V p 2)) (prod V p 3)) (prod V p 4)) (prod V p 5))
    (prod V p 6)) (prod V p 7)) (prod V p 8)) (prod V p 9)) (prod V p 10)) (prod V p 11)

/-! ## The output blocks -/

/-- A row of channel scales on 256 rows. -/
def rows256 (s : FVec F S1x1x128 .f32) : FVec F S256x128 .f32 :=
  broadcastTo S256x128 (shapeCast S1x128 s shapeCasts_S1x1x128_S1x128) broadcasts_S1x128_S256x128

/-- The scaled plane of residue `r`. -/
def plane (A : Fin 4 → FVec F S256x256 .f32) (sx : FVec F S256x128 .f32) (ch : Fin 8 → FVec F S1x1x128 .f32) (r : Fin 8) : FVec F S256x128 .bf16 :=
  truncf .bf16 (mulf (mulf (extractStridedSlice S256x128 ![0, 128 * (r.val % 2)] (A ⟨r.val / 2, by omega⟩) (by revert r; decide)) sx)
    (rows256 (ch r))) bitsLt_bf16_f32

/-- The rows of parity `q` of each plane, mixed. -/
def mixedRows (q : Fin 2) (P : Fin 8 → FVec F S256x128 .bf16) : Fin 8 → FVec F S128x128 .bf16 :=
  mixed iota_S128x128_d1_w32 natLt_1_32 rotates_S128x128_d1 fun r => rowsOfParity q S128x128 (P r) bitcasts_S256x128_w16_S128x128_w32

/-- Column block `c` of the output. -/
def colBlock (P : Fin 8 → FVec F S256x128 .bf16) (c : Fin 8) : FVec F S256x128 .bf16 :=
  truncf .bf16 (gatherLanes (n := 256) (extf .f32 (interleaveRows S256x128 (mixedRows 0 P c) (mixedRows 1 P c) bitcasts_S256x128_w16_S128x128_w32) bitsLt_bf16_f32)
    (gatherIdx (BitVec.ofNat 32 c.val) (lane 256 iota_S256x128_d1_w32) natLt_1_32 broadcasts_S256x128_S256x128)
    shapeCasts_S256x128_S256x128x1 shapeCasts_S256x128x1_S256x128) bitsLt_bf16_f32

/-- The eight column blocks stored one after the other, the last first. -/
def blocks (P : Fin 8 → FVec F S256x128 .bf16) : List (View.Piece (Elt F) S256x1024 .bf16) :=
  [7, 6, 5, 4, 3, 2, 1, 0].map fun c : Fin 8 =>
    ⟨Rect.unit ![0, 128 * c.val] S256x128.size (by revert c; decide), colBlock P c⟩

end Cert.KernelIdeal.Body

end
-- ==== Proof.Bridge.lean ====
/- The values the runs of the body name, in the words of Body: each buffer a point stores into, as the pieces stored, from what
   the point loads. Every equality here is an unfolding of names, checked by the kernel. -/
module

public import proofs.«01_k».proof.Proof.Outs
public import proofs.«01_k».proof.Proof.Body
@[expose] public section
set_option maxRecDepth 16384
noncomputable section
namespace Cert.KernelIdeal.Body
open Idealize.ShloMosaic Idealize.ShloMosaic.Tactic Idealize.ShloMosaic.ValueIdx Cert.W4A8 Cert.KernelIdeal.Gen
variable {F : FTy → Type} [FloatOps F]
variable (c : Dev nD) (arg2 : Memref sig .tc .vmem S3072x128 .i32) (harg2 : arg2.IsWhole) (arg3 : Memref sig .tc .vmem S24x128 .i32) (harg3 : arg3.IsWhole)
    (arg4 : Memref sig .tc .vmem S24x1024 .i8) (harg4 : arg4.IsWhole) (arg5 : Memref sig .tc .vmem S1x1024 .f32) (harg5 : arg5.IsWhole)
    (arg9 : Memref sig .tc .vmem S256x3072 .bf16) (harg9 : arg9.IsWhole) (arg10 : Memref sig .tc .vmem S256x128 .f32) (harg10 : arg10.IsWhole)
    (arg11 : Memref sig .tc .vmem S8x24x128 .i32) (arg12 : Memref sig .tc .vmem S8x24x128 .i32) (arg13 : Memref sig .tc .vmem S8x8x128 .f32)
    (x1 : Vec F S3072x128 .i32) (x2 : Vec F S24x128 .i32) (x3 : Vec F S24x1024 .i8) (x4 : Vec F S1x1024 .f32)
    (xs0 : Vec F S256x3072 .bf16) (xs1 : Vec F S256x128 .f32)

/-- The words of zeros the point stores. -/
def zeros (arg3 : Memref sig .tc .vmem S24x128 .i32) (harg3 : arg3.IsWhole) (x2 : Vec F S24x128 .i32) : List (View.Piece (Elt F) S8x24x128 .i32) :=
  stack24 fun r => zeroWord (View.readAt (Elt F) arg3.view (Rect.unit ![0, 0] S24x128.size (by decide)).toLoadRect (harg3.unread x2)) (fieldShift r)

def scales (arg4 : Memref sig .tc .vmem S24x1024 .i8) (harg4 : arg4.IsWhole) (x3 : Vec F S24x1024 .i8) : List (View.Piece (Elt F) S8x24x128 .i32) :=
  stack24 fun r => scaleWord (scalePlane (View.readAt (Elt F) arg4.view (Rect.unit ![0, 0] S24x1024.size (by decide)).toLoadRect (harg4.unread x3)) r)

def chans (arg5 : Memref sig .tc .vmem S1x1024 .f32) (harg5 : arg5.IsWhole) (x4 : Vec F S1x1024 .f32) : List (View.Piece (Elt F) S8x8x128 .f32) :=
  stack8 (chanPlane (View.readAt (Elt F) arg5.view (Rect.unit ![0, 0] S1x1024.size (by decide)).toLoadRect (harg5.unread x4)))

theorem zeros_B : kernelRun0_B.sl.HS2_8 c arg3 harg3 x2 = zeros arg3 harg3 x2 := rfl
theorem scales_B : kernelRun0_B.sl.HS3_8 c arg4 harg4 x3 = scales arg4 harg4 x3 := rfl
theorem chans_B : kernelRun0_B.sl.HS4_8 c arg5 harg5 x4 = chans arg5 harg5 x4 := rfl

/-- The row of table `L` for residue `r` and group `g`. -/
def tableRow (M : Memref sig .tc .vmem S8x24x128 .i32) (L : List (View.Piece (Elt F) S8x24x128 .i32)) (r : Fin 8) (g : Fin 24) : IVec S1x1x128 32 :=
  M.view.readCov L (Rect.unit (s := S8x24x128) ![r.val, g.val, 0] S1x1x128.size (by revert r g; decide)).toLoadRect

/-- The channel scales of residue `r`. -/
def chanRow (M : Memref sig .tc .vmem S8x8x128 .f32) (L : List (View.Piece (Elt F) S8x8x128 .f32)) (r : Fin 8) : FVec F S1x1x128 .f32 :=
  M.view.readCov L (Rect.unit (s := S8x8x128) ![r.val, 0, 0] S1x1x128.size (by revert r; decide)).toLoadRect

/-- The words of the first half of each group, and of the second. -/
def wordsA (arg2 : Memref sig .tc .vmem S3072x128 .i32) (harg2 : arg2.IsWhole) (x1 : Vec F S3072x128 .i32) (g : Fin 24) : IVec S64x128 32 :=
  View.readAt (Elt F) arg2.view (Rect.unit (s := S3072x128) ![128 * g.val, 0] S64x128.size (by revert g; decide)).toLoadRect (harg2.unread x1)
def wordsB (arg2 : Memref sig .tc .vmem S3072x128 .i32) (harg2 : arg2.IsWhole) (x1 : Vec F S3072x128 .i32) (g : Fin 24) : IVec S64x128 32 :=
  View.readAt (Elt F) arg2.view (Rect.unit (s := S3072x128) ![128 * g.val + 64, 0] S64x128.size (by revert g; decide)).toLoadRect (harg2.unread x1)

/-- What a point loads for its products, from the words, the tables and the tiles of the codes. -/
def loads (arg2 : Memref sig .tc .vmem S3072x128 .i32) (harg2 : arg2.IsWhole) (arg3 : Memref sig .tc .vmem S24x128 .i32) (harg3 : arg3.IsWhole)
    (arg4 : Memref sig .tc .vmem S24x1024 .i8) (harg4 : arg4.IsWhole) (arg11 arg12 : Memref sig .tc .vmem S8x24x128 .i32)
    (x1 : Vec F S3072x128 .i32) (x2 : Vec F S24x128 .i32) (x3 : Vec F S24x1024 .i8) (X : Fin 12 → FVec F S256x256 .bf16) : Loads F where
  a := wordsA arg2 harg2 x1
  b := wordsB arg2 harg2 x1
  z := tableRow arg11 (zeros arg3 harg3 x2)
  s := tableRow arg12 (scales arg4 harg4 x3)
  x := X

/-- The tiles of the codes carried from the first point. -/
def tilesB (arg9 : Memref sig .tc .vmem S256x3072 .bf16) (harg9 : arg9.IsWhole) (xs0 : Vec F S256x3072 .bf16) (k : Fin 12) : FVec F S256x256 .bf16 :=
  View.readAt (Elt F) arg9.view (Rect.unit (s := S256x3072) ![0, 256 * k.val] S256x256.size (by revert k; decide)).toLoadRect (harg9.unread xs0)

/-- The pieces of the output block of a point: from its loads, the row scales and the table of channel scales. -/
def yPieces (V : Loads F) (sx : FVec F S256x128 .f32) (arg13 : Memref sig .tc .vmem S8x8x128 .f32) (L : List (View.Piece (Elt F) S8x8x128 .f32)) :
    List (View.Piece (Elt F) S256x1024 .bf16) :=
  blocks (plane (acc V) sx (chanRow arg13 L))

variable (i : grid0.Coords) (arg1 : Memref sig .tc .vmem S256x3072 .bf16) (harg1 : arg1.IsWhole) (arg6 : Memref sig .tc .vmem S256x1024 .bf16) (harg6 : arg6.IsWhole)
  (arg7 : Memref sig .tc .vmem S256x3072 .i8) (harg7 : arg7.IsWhole) (arg8 : Memref sig .tc .vmem S2x128 .f32) (harg8 : arg8.IsWhole)
  (harg11 : arg11.IsWhole) (harg12 : arg12.IsWhole) (harg13 : arg13.IsWhole) (x0 : Vec F S256x3072 .bf16)

/-- The output block at a later point. -/
theorem pieces_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).1
    = yPieces (loads arg2 harg2 arg3 harg3 arg4 harg4 arg11 arg12 x1 x2 x3 (tilesB arg9 harg9 xs0))
        (View.readAt (Elt F) arg10.view (Rect.unit (s := S256x128) ![0, 0] S256x128.size (by decide)).toLoadRect (harg10.unread xs1)) arg13 (chans arg5 harg5 x4) := by
  sl_kernel_rfl

/-! ## The first point -/

/-- Group `g` of the codes, its two halves interleaved lane by lane. -/
def pairedGroup (q : FVec F S256x3072 .f32) (g : Fin 24) : FVec F S256x128 .bf16 :=
  shapeCast S256x128 (truncf .bf16 (gatherLanes (n := 256) (extractStridedSlice S256x128 ![0, 128 * g.val] q (by revert g; decide))
    (pairIdx (lane 256 iota_S256x128_d1_w32) natLt_1_32 broadcasts_S256x128_S256x128)
    shapeCasts_S256x128_S256x128x1 shapeCasts_S256x128x1_S256x128) bitsLt_bf16_f32) shapeCasts_S256x128_S256x128

/-- The activations as the first point reads them. -/
def readX (arg1 : Memref sig .tc .vmem S256x3072 .bf16) (harg1 : arg1.IsWhole) (x0 : Vec F S256x3072 .bf16) : Vec F S256x3072 .bf16 :=
  View.readAt (Elt F) arg1.view (Rect.unit (s := S256x3072) ![0, 0] S256x3072.size (by decide)).toLoadRect (harg1.unread x0)

/-- The pieces of the paired codes. -/
def pairedPieces (v : Vec F S256x3072 .bf16) : List (View.Piece (Elt F) S256x3072 .bf16) :=
  [23, 22, 21, 20, 19, 18, 17, 16, 15, 14, 13, 12, 11, 10, 9, 8, 7, 6, 5, 4, 3, 2, 1, 0].map fun g : Fin 24 =>
    ⟨Rect.unit (s := S256x3072) ![0, 128 * g.val] S256x128.size (by revert g; decide), pairedGroup (k0_pay3 v) g⟩

/-- The piece of the row scales, 128 equal columns. -/
def rowPieces (v : Vec F S256x3072 .bf16) : List (View.Piece (Elt F) S256x128 .f32) :=
  [⟨Rect.unit (s := S256x128) ![0, 0] S256x128.size (by decide), k0_pay5 v⟩]

/-- The tiles of the codes, as the first point reads them back. -/
def tilesA (arg9 : Memref sig .tc .vmem S256x3072 .bf16) (v : Vec F S256x3072 .bf16) (k : Fin 12) : FVec F S256x256 .bf16 :=
  arg9.view.readCov (pairedPieces v) (Rect.unit (s := S256x3072) ![0, 256 * k.val] S256x256.size (by revert k; decide)).toLoadRect

theorem pieces_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1
    = yPieces (loads arg2 harg2 arg3 harg3 arg4 harg4 arg11 arg12 x1 x2 x3 (tilesA arg9 (readX arg1 harg1 x0)))
        (arg10.view.readCov (rowPieces (readX arg1 harg1 x0)) (Rect.unit (s := S256x128) ![0, 0] S256x128.size (by decide)).toLoadRect) arg13 (chans arg5 harg5 x4) := by
  sl_kernel_rfl

theorem codes_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1
    = [⟨Rect.unit (s := S256x3072) ![0, 0] S256x3072.size (by decide), k0_pay4 (readX arg1 harg1 x0)⟩] := by
  sl_kernel_rfl

theorem rowScales_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1
    = [⟨Rect.unit (s := S2x128) ![1, 0] S1x128.size (by decide), k0_pay7 (readX arg1 harg1 x0)⟩,
       ⟨Rect.unit (s := S2x128) ![0, 0] S1x128.size (by decide), k0_pay6 (readX arg1 harg1 x0)⟩] := by
  sl_kernel_rfl

theorem paired_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.1
    = pairedPieces (readX arg1 harg1 x0) := by
  sl_kernel_rfl

theorem rows_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.2.1
    = rowPieces (readX arg1 harg1 x0) := by
  sl_kernel_rfl

end Cert.KernelIdeal.Body

end
-- ==== Proof.Numbers.lean ====
/- The words of the kernel as numbers: a nibble under the pattern 0x4300 is 128 plus the nibble as a bf16, and the bits the
   kernel builds for a scale below 256 are that scale as a bf16. -/
module

public import Idealize.ShloMosaic.Lib.ValueIdx
public import Idealize.ShloMosaic.PureOps.Ideal
public import Mathlib.Tactic.IntervalCases
public import Mathlib.Tactic.NormNum

@[expose] public section

set_option maxRecDepth 16384

namespace Cert.W4A8

open Idealize.ShloMosaic Idealize.ShloMosaic.ValueIdx

/-- Nibble `f` of a word. -/
def nib (w : BitVec 32) (f : Nat) : BitVec 32 := (w >>> (4 * f)) &&& 15#32

theorem nib_lt (w : BitVec 32) (f : Nat) : (nib w f).toNat < 16 := by
  have h : (nib w f).toNat = (w >>> (4 * f)).toNat &&& 15 := by simp [nib]
  rw [h]; exact Nat.lt_succ_of_le Nat.and_le_right

/-- A nibble under the bf16 pattern of 128. -/
def over128 (n : BitVec 32) : BitVec 16 := 0x4300#16 ||| n.setWidth 16

/-- The low and the high half of a word. -/
def half (h : Nat) (w : BitVec 32) : BitVec 16 := w.extractLsb' (16 * h) 16

theorem lo_half0 (a b : BitVec 32) (f : Fin 4) :
    half 0 (((((a &&& 65535#32) ||| (b <<< 16)) >>> (4 * f.val)) &&& 983055#32) ||| 1124090624#32) = over128 (nib a f.val) := by
  unfold half over128 nib
  ext i hi
  fin_cases f <;> interval_cases i <;> simp [BitVec.getElem_extractLsb', BitVec.getElem_or, BitVec.getElem_and]

theorem lo_half1 (a b : BitVec 32) (f : Fin 4) :
    half 1 (((((a &&& 65535#32) ||| (b <<< 16)) >>> (4 * f.val)) &&& 983055#32) ||| 1124090624#32) = over128 (nib b f.val) := by
  unfold half over128 nib
  ext i hi
  fin_cases f <;> interval_cases i <;> simp [BitVec.getElem_extractLsb', BitVec.getElem_or, BitVec.getElem_and]

theorem hi_half0 (a b : BitVec 32) (f : Fin 4) :
    half 0 (((((a >>> 16) ||| (b &&& 4294901760#32)) >>> (4 * f.val)) &&& 983055#32) ||| 1124090624#32) = over128 (nib a (f.val + 4)) := by
  unfold half over128 nib
  ext i hi
  fin_cases f <;> interval_cases i <;> simp [BitVec.getElem_extractLsb', BitVec.getElem_or, BitVec.getElem_and]

theorem hi_half1 (a b : BitVec 32) (f : Fin 4) :
    half 1 (((((a >>> 16) ||| (b &&& 4294901760#32)) >>> (4 * f.val)) &&& 983055#32) ||| 1124090624#32) = over128 (nib b (f.val + 4)) := by
  unfold half over128 nib
  ext i hi
  fin_cases f <;> interval_cases i <;> simp [BitVec.getElem_extractLsb', BitVec.getElem_or, BitVec.getElem_and]

theorem zero_half (z : BitVec 32) (f : Fin 8) (h : Fin 2) :
    half h.val ((nib z f.val ||| (nib z f.val <<< 16)) ||| 1124090624#32) = over128 (nib z f.val) := by
  generalize hn : nib z f.val = n
  have hlt : n.toNat < 16 := hn ▸ nib_lt z f.val
  have e : n = BitVec.ofNat 32 n.toNat := by simp
  rw [e]
  generalize n.toNat = k at hlt
  revert h
  interval_cases k <;> decide

/-- A bf16 pattern that is positive and normal, as a number. -/
theorem bf16_normal (b : BitVec 16) (n : Nat) (h : b.extractLsb' 15 1 = 0#1 ∧ 127 ≤ (b.extractLsb' 7 8).toNat ∧ (b.extractLsb' 7 8).toNat ≤ 134
    ∧ (128 + (b.extractLsb' 0 7).toNat) * 2 ^ ((b.extractLsb' 7 8).toNat - 127) = n * 128) :
    Ideal.ofBits .bf16 b = ((n : ℝ) : EReal) := by
  obtain ⟨h0, h1, h2, h3⟩ := h
  show Ideal.ieee 8 7 b = _
  unfold Ideal.ieee
  generalize hex : (b.extractLsb' 7 8).toNat = ex at *
  generalize (b.extractLsb' 0 7).toNat = fr at *
  simp only [h0, show (8 + 7 : Nat) = 15 from rfl]
  rw [if_neg (by omega), if_neg (by omega)]
  congr 1
  have h3' : ((128 + fr : ℕ) : ℝ) * 2 ^ (ex - 127) = n * 128 := by exact_mod_cast h3
  interval_cases ex <;> norm_num at h3' ⊢ <;> linarith

theorem over128_val (n : BitVec 32) (h : n.toNat < 16) : Ideal.ofBits .bf16 (over128 n) = ((128 + n.toNat : ℕ) : ℝ) := by
  have e : n = BitVec.ofNat 32 n.toNat := by simp
  generalize hk : n.toNat = k at *
  subst e
  refine bf16_normal _ _ ?_
  clear hk
  interval_cases k <;> decide

/-- A dequantised nibble before its scale: the 128s cancel. -/
theorem over128_sub (c z : BitVec 32) (hc : c.toNat < 16) (hz : z.toNat < 16) :
    Ideal.ofBits .bf16 (over128 c) - Ideal.ofBits .bf16 (over128 z) = ((c.toNat : ℝ) : EReal) - ((z.toNat : ℝ) : EReal) := by
  rw [over128_val c hc, over128_val z hz]
  rw [← EReal.coe_sub, ← EReal.coe_sub]
  congr 1; push_cast; ring

/-- The bits of a number below 256 as a float, one word. -/
def floatWord (n : BitVec 32) : BitVec 32 :=
  let step (t sh add : BitVec 32) (rest : BitVec 32) :=
    Scalar.select (IntOp.cmpi .sge n t) (IntOp.addi (IntOp.shli .vector n sh) add) rest
  step 128#32 16#32 1115684864#32 (step 64#32 17#32 1107296256#32 (step 32#32 18#32 1098907648#32 (step 16#32 19#32 1090519040#32
    (step 8#32 20#32 1082130432#32 (step 4#32 21#32 1073741824#32 (step 2#32 22#32 1065353216#32 (step 1#32 23#32 1056964608#32
      (0#32))))))))

/-- The word of a scale. -/
def scaleWord1 (n : BitVec 32) : BitVec 32 := IntOp.ori (floatWord n) (IntOp.shrui .vector (floatWord n) 16#32)

theorem scale_bits : ∀ (h : Fin 2) (n : Fin 256), n.val ≠ 0 → let b := half h.val (scaleWord1 (BitVec.ofNat 32 n.val))
    b.extractLsb' 15 1 = 0#1 ∧ 127 ≤ (b.extractLsb' 7 8).toNat ∧ (b.extractLsb' 7 8).toNat ≤ 134
    ∧ (128 + (b.extractLsb' 0 7).toNat) * 2 ^ ((b.extractLsb' 7 8).toNat - 127) = n.val * 128 := by
  decide +kernel

theorem scale_val (h : Fin 2) (n : BitVec 32) (hn : n.toNat < 256) : Ideal.ofBits .bf16 (half h.val (scaleWord1 n)) = ((n.toNat : ℝ) : EReal) := by
  have e : n = BitVec.ofNat 32 n.toNat := by simp
  by_cases h0 : n.toNat = 0
  · rw [h0] at e
    subst e
    have hz : half h.val (scaleWord1 0#32) = 0#16 := by revert h; decide
    rw [hz, h0]
    simp [Ideal.ofBits, Ideal.ieee]
  · have hb := bf16_normal _ _ (scale_bits h ⟨n.toNat, hn⟩ h0)
    generalize n.toNat = k at *
    subst e
    exact hb

end Cert.W4A8
-- ==== Proof.Tile.lean ====
/- One point's products as numbers: a dequantised weight is (nibble minus zero) times scale, and an accumulator is one sum over
   the 3072 rows. -/
module

public import proofs.«01_k».proof.Proof.Body
public import proofs.«01_k».proof.Proof.Numbers
public import Idealize.ShloMosaic.Lib.MatmulPlain
public import Idealize.ShloMosaic.Lib.BitcastPair

@[expose] public section

set_option maxRecDepth 16384

noncomputable section

namespace Cert.KernelIdeal.Body

open Idealize.ShloMosaic Idealize.ShloMosaic.ValueIdx Cert.W4A8 Cert.KernelIdeal.Gen

/-- The nibble of a word that belongs to residue `r`. -/
def field (r : Fin 8) : Nat := r.val / 2 + 4 * (r.val % 2)

/-- A word of a number, an `EReal`. -/
def num {w : Nat} (n : BitVec w) : EReal := ((n.toNat : ℝ) : EReal)

/-- A dequantised weight. -/
def weight (w z : BitVec 32) (f : Nat) (s : BitVec 8) : EReal := (num (nib w f) - num (nib z f)) * num s

theorem halves_apply (w : IVec S64x128 32) (i : Fin 128) (l : Fin 128) :
    halves (F := Ideal) w (ix2 i l) = Ideal.ofBits .bf16 (half (i.val % 2) (w (ix2 (⟨i.val / 2, by omega⟩ : Fin 64) l))) := by
  refine (congrArg (Ideal.ofBits .bf16) (bitcast_32_16 w bitcasts_S64x128_w32_S128x128_w16 (ix2 i l))).trans ?_
  refine congrArg (fun x => Ideal.ofBits .bf16 (half (i.val % 2) (w x))) (funext fun a => ?_)
  match a with
  | ⟨0, _⟩ => exact Fin.ext (Shape.Bitcasts.srcIdx_row _ _ _ _ 0 rfl)
  | ⟨1, _⟩ => exact Fin.ext (Shape.Bitcasts.srcIdx_other _ _ _ _ 1 (by decide))

theorem rows64_apply (z : IVec S1x1x128 32) (i : Fin 64) (l : Fin 128) : rows64 z (ix2 i l) = z (ix3 0 0 l) := by
  unfold rows64
  rw [shapeCast_self, broadcastTo_apply _ _ _ (ix2 (0 : Fin 1) l) (fun a => by match a with | ⟨0, _⟩ => rfl | ⟨1, _⟩ => rfl)]
  refine (shapeCast_dropUnit_apply ![1, 128] z shapeCasts_S1x1x128_S1x128 (ix2 (0 : Fin 1) l)).trans (congrArg z (funext fun a => ?_))
  match a with
  | ⟨0, _⟩ => rfl
  | ⟨1, _⟩ => rfl
  | ⟨2, _⟩ => rfl

/-- What a point's loads hold: words `W`, zeros `Z`, scales `SG`, paired codes `xb`. -/
structure Holds (V : Loads Ideal) (W : IVec S3072x128 32) (Z : IVec S24x128 32) (SG : IVec S24x1024 8) (xb : FVec Ideal S256x3072 .bf16) : Prop where
  a : ∀ (g : Fin 24) (i : Fin 64) (l : Fin 128), V.a g (ix2 i l) = W (ix2 (⟨128 * g.val + i.val, by omega⟩ : Fin 3072) l)
  b : ∀ (g : Fin 24) (i : Fin 64) (l : Fin 128), V.b g (ix2 i l) = W (ix2 (⟨128 * g.val + 64 + i.val, by omega⟩ : Fin 3072) l)
  z : ∀ (r : Fin 8) (g : Fin 24) (l : Fin 128), V.z r g (ix3 0 0 l)
    = (nib (Z (ix2 g l)) (field r) ||| (nib (Z (ix2 g l)) (field r) <<< 16)) ||| 1124090624#32
  s : ∀ (r : Fin 8) (g : Fin 24) (l : Fin 128), V.s r g (ix3 0 0 l) = scaleWord1 ((SG (ix2 g (⟨8 * l.val + r.val, by omega⟩ : Fin 1024))).setWidth 32)
  x : ∀ (k : Fin 12) (m j : Fin 256), V.x k (ix2 m j) = xb (ix2 m (⟨256 * k.val + j.val, by omega⟩ : Fin 3072))

/-- The row of the words whose nibbles a row of the paired order holds: rows `2 i` and `2 i + 1` of a group are its rows `i` and
    `64 + i`. -/
def unpair (k : Fin 3072) : Fin 3072 := ⟨128 * (k.val / 128) + k.val % 128 / 2 + 64 * (k.val % 2), by omega⟩

theorem lo_shift (a b : IVec S64x128 32) (p : Fin 4) (j : S64x128.Idx) :
    shifted (wordLo a b) p j = ((a j &&& 65535#32) ||| (b j <<< 16)) >>> (4 * p.val) := by
  match p with
  | ⟨0, _⟩ => exact (BitVec.ushiftRight_zero _).symm
  | ⟨1, _⟩ => rfl
  | ⟨2, _⟩ => rfl
  | ⟨3, _⟩ => rfl

theorem hi_shift (a b : IVec S64x128 32) (p : Fin 4) (j : S64x128.Idx) :
    shifted (wordHi a b) p j = ((a j >>> 16) ||| (b j &&& 4294901760#32)) >>> (4 * p.val) := by
  match p with
  | ⟨0, _⟩ => exact (BitVec.ushiftRight_zero _).symm
  | ⟨1, _⟩ => rfl
  | ⟨2, _⟩ => rfl
  | ⟨3, _⟩ => rfl

theorem scale_num (s : BitVec 8) (h : Fin 2) : Ideal.ofBits .bf16 (half h.val (scaleWord1 (s.setWidth 32))) = num s := by
  have hs : (s.setWidth 32).toNat = s.toNat := by
    rw [BitVec.toNat_setWidth]; have := s.isLt; omega
  rw [scale_val h _ (by rw [hs]; exact s.isLt), hs]; rfl

variable {V : Loads Ideal} {W : IVec S3072x128 32} {Z : IVec S24x128 32} {SG : IVec S24x1024 8} {xb : FVec Ideal S256x3072 .bf16}

/-- A dequantised tile, from a statement of the two halves of its words. -/
theorem dequant_apply (t : IVec S64x128 32) (z s : IVec S1x1x128 32) (i l : Fin 128) (w zz : BitVec 32) (f : Fin 8) (sg : BitVec 8)
    (ht : half (i.val % 2) ((t (ix2 (⟨i.val / 2, by omega⟩ : Fin 64) l) &&& 983055#32) ||| 1124090624#32) = over128 (nib w f.val))
    (hz : z (ix3 0 0 l) = (nib zz f.val ||| (nib zz f.val <<< 16)) ||| 1124090624#32) (hs : s (ix3 0 0 l) = scaleWord1 (sg.setWidth 32)) :
    dequant (F := Ideal) t z s (ix2 i l) = weight w zz f.val sg := by
  unfold dequant weight
  rw [mulf_apply, subf_apply, halves_apply, halves_apply, halves_apply, rows64_apply, rows64_apply, hz, hs]
  have e1 := zero_half zz f ⟨i.val % 2, by omega⟩
  have e2 := scale_num sg ⟨i.val % 2, by omega⟩
  dsimp only at e1 e2
  rw [e1, e2]
  congr 1
  refine Eq.trans ?_ (over128_sub _ _ (nib_lt w f.val) (nib_lt zz f.val))
  exact congrArg (fun x => Ideal.ofBits .bf16 x - Ideal.ofBits .bf16 (over128 (nib zz f.val))) ht

theorem evenTile_apply (H : Holds V W Z SG xb) (p : Fin 4) (g : Fin 24) (i l : Fin 128) (k : Fin 3072) (hk : k.val = 128 * g.val + i.val) :
    evenTile V p g (ix2 i l) = weight (W (ix2 (unpair k) l)) (Z (ix2 g l)) (field (even p)) (SG (ix2 g (⟨8 * l.val + (even p).val, by have := (even p).isLt; omega⟩ : Fin 1024))) := by
  have hf : field (even p) = p.val := by show 2 * p.val / 2 + 4 * (2 * p.val % 2) = _; omega
  unfold evenTile
  refine (dequant_apply _ _ _ i l (W (ix2 (unpair k) l)) _ ⟨field (even p), by rw [hf]; omega⟩ _ ?_ (H.z _ g l) (H.s _ g l)).trans rfl
  rw [lo_shift, H.a, H.b]
  rcases Nat.mod_two_eq_zero_or_one i.val with h | h
  · rw [h]
    have e := lo_half0 (W (ix2 (⟨128 * g.val + i.val / 2, by omega⟩ : Fin 3072) l)) (W (ix2 (⟨128 * g.val + 64 + i.val / 2, by omega⟩ : Fin 3072) l)) p
    refine e.trans ?_
    dsimp only
    rw [hf]
    congr 4
    apply Fin.ext; show 128 * g.val + i.val / 2 = 128 * (k.val / 128) + k.val % 128 / 2 + 64 * (k.val % 2); omega
  · rw [h]
    have e := lo_half1 (W (ix2 (⟨128 * g.val + i.val / 2, by omega⟩ : Fin 3072) l)) (W (ix2 (⟨128 * g.val + 64 + i.val / 2, by omega⟩ : Fin 3072) l)) p
    refine e.trans ?_
    dsimp only
    rw [hf]
    congr 4
    apply Fin.ext; show 128 * g.val + 64 + i.val / 2 = 128 * (k.val / 128) + k.val % 128 / 2 + 64 * (k.val % 2); omega

theorem oddTile_apply (H : Holds V W Z SG xb) (p : Fin 4) (g : Fin 24) (i l : Fin 128) (k : Fin 3072) (hk : k.val = 128 * g.val + i.val) :
    oddTile V p g (ix2 i l) = weight (W (ix2 (unpair k) l)) (Z (ix2 g l)) (field (odd p)) (SG (ix2 g (⟨8 * l.val + (odd p).val, by have := (odd p).isLt; omega⟩ : Fin 1024))) := by
  have hf : field (odd p) = p.val + 4 := by show (2 * p.val + 1) / 2 + 4 * ((2 * p.val + 1) % 2) = _; omega
  unfold oddTile
  refine (dequant_apply _ _ _ i l (W (ix2 (unpair k) l)) _ ⟨field (odd p), by rw [hf]; omega⟩ _ ?_ (H.z _ g l) (H.s _ g l)).trans rfl
  rw [hi_shift, H.a, H.b]
  rcases Nat.mod_two_eq_zero_or_one i.val with h | h
  · rw [h]
    have e := hi_half0 (W (ix2 (⟨128 * g.val + i.val / 2, by omega⟩ : Fin 3072) l)) (W (ix2 (⟨128 * g.val + 64 + i.val / 2, by omega⟩ : Fin 3072) l)) p
    refine e.trans ?_
    dsimp only
    rw [hf]
    congr 4
    apply Fin.ext; show 128 * g.val + i.val / 2 = 128 * (k.val / 128) + k.val % 128 / 2 + 64 * (k.val % 2); omega
  · rw [h]
    have e := hi_half1 (W (ix2 (⟨128 * g.val + i.val / 2, by omega⟩ : Fin 3072) l)) (W (ix2 (⟨128 * g.val + 64 + i.val / 2, by omega⟩ : Fin 3072) l)) p
    refine e.trans ?_
    dsimp only
    rw [hf]
    congr 4
    apply Fin.ext; show 128 * g.val + 64 + i.val / 2 = 128 * (k.val / 128) + k.val % 128 / 2 + 64 * (k.val % 2); omega

/-- The weight of row `k` (plain order), lane `l`, residue `r`. -/
def wt (W : IVec S3072x128 32) (Z : IVec S24x128 32) (SG : IVec S24x1024 8) (k : Fin 3072) (l : Fin 128) (r : Fin 8) : EReal :=
  weight (W (ix2 k l)) (Z (ix2 (⟨k.val / 128, by omega⟩ : Fin 24) l)) (field r)
    (SG (ix2 (⟨k.val / 128, by omega⟩ : Fin 24) (⟨8 * l.val + r.val, by omega⟩ : Fin 1024)))

theorem unpair_group (k : Fin 3072) : (unpair k).val / 128 = k.val / 128 := by
  show (128 * (k.val / 128) + k.val % 128 / 2 + 64 * (k.val % 2)) / 128 = _; omega

theorem wt_unpair (k : Fin 3072) (g : Fin 24) (hg : g.val = k.val / 128) (l : Fin 128) (r : Fin 8) :
    wt W Z SG (unpair k) l r = weight (W (ix2 (unpair k) l)) (Z (ix2 g l)) (field r) (SG (ix2 g (⟨8 * l.val + r.val, by omega⟩ : Fin 1024))) := by
  have e : (⟨(unpair k).val / 128, by have := (unpair k).isLt; omega⟩ : Fin 24) = g := Fin.ext (by rw [hg]; exact unpair_group k)
  unfold wt
  rw [e]

/-- The residue of column `j` of accumulator `p`. -/
def resid (p : Fin 4) (j : Fin 256) : Fin 8 := ⟨2 * p.val + j.val / 128, by omega⟩

theorem rhs_apply (H : Holds V W Z SG xb) (p : Fin 4) (t : Fin 12) (i j : Fin 256) (k : Fin 3072) (hk : k.val = 256 * t.val + i.val) :
    rhs V p t (ix2 i j) = wt W Z SG (unpair k) (⟨j.val % 128, by omega⟩ : Fin 128) (resid p j) := by
  unfold rhs
  have hi := i.isLt
  have hj := j.isLt
  by_cases cj : j.val < 128
  · rw [concatenate_pair_apply_left (t := S256x256) (s₁ := S256x128) (s₂ := S256x128) 1 _ _ _ _ rfl (ix2 i (⟨j.val % 128, by omega⟩ : Fin 128)) (fun b => by
      match b with
      | ⟨0, _⟩ => rfl
      | ⟨1, _⟩ => show j.val % 128 = j.val; omega)]
    have er : resid p j = even p := Fin.ext (by show 2 * p.val + j.val / 128 = 2 * p.val; omega)
    rw [er]
    by_cases ci : i.val < 128
    · rw [concatenate_pair_apply_left (t := S256x128) (s₁ := S128x128) (s₂ := S128x128) 0 _ _ _ _ rfl (ix2 (⟨i.val, ci⟩ : Fin 128) (⟨j.val % 128, by omega⟩ : Fin 128)) (fun b => by
        match b with
        | ⟨0, _⟩ => rfl
        | ⟨1, _⟩ => rfl)]
      rw [evenTile_apply H p (grp0 t) _ _ k (by rw [hk]; show _ = 128 * (2 * t.val) + i.val; omega), wt_unpair k (grp0 t) (by show 2 * t.val = _; omega)]
    · rw [concatenate_pair_apply_right (t := S256x128) (s₁ := S128x128) (s₂ := S128x128) 0 _ _ _ _ rfl rfl (ix2 (⟨i.val - 128, by omega⟩ : Fin 128) (⟨j.val % 128, by omega⟩ : Fin 128)) (fun b hb => by
        match b with
        | ⟨0, _⟩ => exact absurd rfl hb
        | ⟨1, _⟩ => rfl) (by show i.val - 128 + 128 = i.val; omega)]
      rw [evenTile_apply H p (grp1 t) _ _ k (by rw [hk]; show _ = 128 * (2 * t.val + 1) + (i.val - 128); omega), wt_unpair k (grp1 t) (by show 2 * t.val + 1 = _; omega)]
  · rw [concatenate_pair_apply_right (t := S256x256) (s₁ := S256x128) (s₂ := S256x128) 1 _ _ _ _ rfl rfl (ix2 i (⟨j.val % 128, by omega⟩ : Fin 128)) (fun b hb => by
      match b with
      | ⟨0, _⟩ => rfl
      | ⟨1, _⟩ => exact absurd rfl hb) (by show j.val % 128 + 128 = j.val; omega)]
    have er : resid p j = odd p := Fin.ext (by show 2 * p.val + j.val / 128 = 2 * p.val + 1; omega)
    rw [er]
    by_cases ci : i.val < 128
    · rw [concatenate_pair_apply_left (t := S256x128) (s₁ := S128x128) (s₂ := S128x128) 0 _ _ _ _ rfl (ix2 (⟨i.val, ci⟩ : Fin 128) (⟨j.val % 128, by omega⟩ : Fin 128)) (fun b => by
        match b with
        | ⟨0, _⟩ => rfl
        | ⟨1, _⟩ => rfl)]
      rw [oddTile_apply H p (grp0 t) _ _ k (by rw [hk]; show _ = 128 * (2 * t.val) + i.val; omega), wt_unpair k (grp0 t) (by show 2 * t.val = _; omega)]
    · rw [concatenate_pair_apply_right (t := S256x128) (s₁ := S128x128) (s₂ := S128x128) 0 _ _ _ _ rfl rfl (ix2 (⟨i.val - 128, by omega⟩ : Fin 128) (⟨j.val % 128, by omega⟩ : Fin 128)) (fun b hb => by
        match b with
        | ⟨0, _⟩ => exact absurd rfl hb
        | ⟨1, _⟩ => rfl) (by show i.val - 128 + 128 = i.val; omega)]
      rw [oddTile_apply H p (grp1 t) _ _ k (by rw [hk]; show _ = 128 * (2 * t.val + 1) + (i.val - 128); omega), wt_unpair k (grp1 t) (by show 2 * t.val + 1 = _; omega)]

theorem zero_f32 : Ideal.ofBits .f32 0#32 = 0 := by simp [Ideal.ofBits, Ideal.ieee]

/-- Row `256 t + j` of 3072. -/
def rowOf (t : Fin 12) (j : Fin 256) : Fin 3072 := ⟨256 * t.val + j.val, by omega⟩

theorem prod_apply (H : Holds V W Z SG xb) (p : Fin 4) (t : Fin 12) (m j : Fin 256) :
    prod V p t (ix2 m j) = ∑ i : Fin 256, xb (ix2 m (rowOf t i)) * wt W Z SG (unpair (rowOf t i)) (⟨j.val % 128, by omega⟩ : Fin 128) (resid p j) := by
  have e : prod V p t (ix2 m j) = constant (F := Ideal) S256x256 .f32 0#32 (ix2 m j) + ∑ i : Fin 256, V.x t (ix2 m i) * rhs V p t (ix2 i j) :=
    Ideal.matmul_plain_apply (M := 256) (K := 256) (N := 256) none (V.x t) (rhs V p t) _ m j
  rw [e, constant_apply, zero_f32, zero_add]
  refine Finset.sum_congr rfl fun i _ => ?_
  rw [H.x, rhs_apply H p t i j (rowOf t i) rfl]
  rfl

theorem sum_tiles (f : Fin 3072 → EReal) : ∑ k, f k = ∑ t : Fin 12, ∑ i : Fin 256, f (rowOf t i) := by
  rw [← Fintype.sum_prod_type']
  symm
  refine Fintype.sum_bijective (fun q : Fin 12 × Fin 256 => rowOf q.1 q.2) ?_ _ _ (fun _ => rfl)
  constructor
  · rintro ⟨a, b⟩ ⟨a', b'⟩ h
    have h' : 256 * a.val + b.val = 256 * a'.val + b'.val := congrArg Fin.val h
    have := b.isLt; have := b'.isLt
    exact Prod.ext (Fin.ext (by show a.val = a'.val; omega)) (Fin.ext (by show b.val = b'.val; omega))
  · intro k
    exact ⟨(⟨k.val / 256, by omega⟩, ⟨k.val % 256, by omega⟩), Fin.ext (by show 256 * (k.val / 256) + k.val % 256 = k.val; omega)⟩

theorem unpair_bij : Function.Bijective unpair := by
  refine (Finite.injective_iff_bijective).1 fun a b h => ?_
  have h' : 128 * (a.val / 128) + a.val % 128 / 2 + 64 * (a.val % 2) = 128 * (b.val / 128) + b.val % 128 / 2 + 64 * (b.val % 2) := congrArg Fin.val h
  have split : ∀ n : Nat, n = 128 * (n / 128) + 2 * (n % 128 / 2) + n % 2 ∧ n % 128 / 2 < 64 ∧ n % 2 < 2 := fun n => by omega
  have ha := split a.val
  have hb := split b.val
  apply Fin.ext
  generalize a.val / 128 = A at *
  generalize a.val % 128 / 2 = A' at *
  generalize a.val % 2 = A'' at *
  generalize b.val / 128 = B at *
  generalize b.val % 128 / 2 = B' at *
  generalize b.val % 2 = B'' at *
  have h1 : A'' = 0 ∨ A'' = 1 := by omega
  have h2 : B'' = 0 ∨ B'' = 1 := by omega
  rcases h1 with h1 | h1 <;> rcases h2 with h2 | h2 <;> subst h1 <;> subst h2 <;> omega

/-- An accumulator, in plain order: the sum over the 3072 rows of code times weight. -/
theorem acc_apply (H : Holds V W Z SG xb) (q : Fin 256 → Fin 3072 → EReal) (hq : ∀ m k, xb (ix2 m k) = q m (unpair k)) (p : Fin 4) (m j : Fin 256) :
    acc V p (ix2 m j) = ∑ k : Fin 3072, q m k * wt W Z SG k (⟨j.val % 128, by omega⟩ : Fin 128) (resid p j) := by
  have e : acc V p (ix2 m j) = ∑ t : Fin 12, prod V p t (ix2 m j) := by
    simp only [Fin.sum_univ_castSucc, Fin.sum_univ_zero, zero_add]
    rfl
  rw [e]
  rw [← (Fintype.sum_bijective unpair unpair_bij (fun k => q m (unpair k) * wt W Z SG (unpair k) (⟨j.val % 128, by omega⟩ : Fin 128) (resid p j)) _ (fun _ => rfl)),
    sum_tiles]
  refine Finset.sum_congr rfl fun t _ => ?_
  rw [prod_apply H]
  exact Finset.sum_congr rfl fun i _ => by rw [hq]

end Cert.KernelIdeal.Body

end
-- ==== Proof.Table.lean ====
/- The tables a point builds, read back, and the output block's pieces put together: column `8 p + r` of the block is lane `p` of
   plane `r`. -/
module

public import proofs.«01_k».proof.Proof.Bridge
public import proofs.«01_k».proof.Proof.Tile
public import Idealize.ShloMosaic.Lib.Pipeline.ValueKit.Tiles
public import Idealize.ShloMosaic.Lib.Bf16Pair

@[expose] public section

set_option maxRecDepth 16384

noncomputable section

namespace Cert.KernelIdeal.Body

open Idealize.ShloMosaic Idealize.ShloMosaic.ValueIdx Cert.W4A8 Cert.KernelIdeal.Gen

theorem mem8 (r : Fin 8) : r ∈ ([7, 6, 5, 4, 3, 2, 1, 0] : List (Fin 8)) := by revert r; decide

theorem inb24 (r : Fin 8) : ∀ a, (![r.val, 0, 0] : Fin 3 → Nat) a + S1x24x128.size a ≤ S8x24x128.size a := by revert r; decide
theorem inb8 (r : Fin 8) : ∀ a, (![r.val, 0, 0] : Fin 3 → Nat) a + S1x8x128.size a ≤ S8x8x128.size a := by revert r; decide
theorem inbCol (c : Fin 8) : ∀ a, (![0, 128 * c.val] : Fin 2 → Nat) a + S256x128.size a ≤ S256x1024.size a := by revert c; decide

/-- Eight stored planes read at an index. -/
theorem canon_stack24 (v : Fin 8 → IVec S24x128 32) (r : Fin 8) (g : Fin 24) (l : Fin 128) :
    View.canon (stack24 (F := Ideal) v) (ix3 r g l) = v r (ix2 g l) := by
  refine View.canon_apply_of_pieces (Val := Elt Ideal) (e := .i32) (fun y : S8x24x128.Idx => v (y 0) (ix2 (y 1) (y 2))) (stack24 v) (fun p hp x => ?_) (ix3 r g l)
    ⟨_, List.mem_map_of_mem (mem8 r), ?_⟩
  · obtain ⟨q, _, rfl⟩ := List.mem_map.1 hp
    refine (shapeCast_addUnit_apply ![24, 128] (v q) _ x).trans ?_
    have h0 : (x 0).val = 0 := by have : (x 0).val < 1 := (x 0).isLt; omega
    refine congr (congrArg v (Fin.ext ?_)) (funext fun a => ?_)
    · show q.val = q.val + 1 * (x 0).val; omega
    · match a with
      | ⟨0, _⟩ => exact Fin.ext (by show (x 1).val = 0 + 1 * (x 1).val; omega)
      | ⟨1, _⟩ => exact Fin.ext (by show (x 2).val = 0 + 1 * (x 2).val; omega)
  · refine (Rect.mem_set_unit (inb := inb24 r)).2 fun a => ?_
    match a with
    | ⟨0, _⟩ => show r.val ≤ r.val ∧ r.val < r.val + 1; omega
    | ⟨1, _⟩ => show 0 ≤ g.val ∧ g.val < 0 + 24; omega
    | ⟨2, _⟩ => show 0 ≤ l.val ∧ l.val < 0 + 128; omega

theorem canon_stack8 (v : Fin 8 → FVec Ideal S8x128 .f32) (r i : Fin 8) (l : Fin 128) :
    View.canon (stack8 v) (ix3 r i l) = v r (ix2 i l) := by
  refine View.canon_apply_of_pieces (Val := Elt Ideal) (e := .f32) (fun y : S8x8x128.Idx => v (y 0) (ix2 (y 1) (y 2))) (stack8 v) (fun p hp x => ?_) (ix3 r i l)
    ⟨_, List.mem_map_of_mem (mem8 r), ?_⟩
  · obtain ⟨q, _, rfl⟩ := List.mem_map.1 hp
    refine (shapeCast_addUnit_apply ![8, 128] (v q) _ x).trans ?_
    have h0 : (x 0).val = 0 := by have : (x 0).val < 1 := (x 0).isLt; omega
    refine congr (congrArg v (Fin.ext ?_)) (funext fun a => ?_)
    · show q.val = q.val + 1 * (x 0).val; omega
    · match a with
      | ⟨0, _⟩ => exact Fin.ext (by show (x 1).val = 0 + 1 * (x 1).val; omega)
      | ⟨1, _⟩ => exact Fin.ext (by show (x 2).val = 0 + 1 * (x 2).val; omega)
  · refine (Rect.mem_set_unit (inb := inb8 r)).2 fun a => ?_
    match a with
    | ⟨0, _⟩ => show r.val ≤ r.val ∧ r.val < r.val + 1; omega
    | ⟨1, _⟩ => show 0 ≤ i.val ∧ i.val < 0 + 8; omega
    | ⟨2, _⟩ => show 0 ≤ l.val ∧ l.val < 0 + 128; omega

theorem tableRow_apply (M : Memref sig .tc .vmem S8x24x128 .i32) (v : Fin 8 → IVec S24x128 32) (r : Fin 8) (g : Fin 24) (l : Fin 128) :
    tableRow (F := Ideal) M (stack24 v) r g (ix3 0 0 l) = v r (ix2 g l) := by
  unfold tableRow
  refine (congrFun (View.readCov_eq_canon' _ _ _) _).trans (Eq.trans ?_ (canon_stack24 v r g l))
  congr 1
  funext a
  match a with
  | ⟨0, _⟩ => rfl
  | ⟨1, _⟩ => rfl
  | ⟨2, _⟩ => exact Fin.ext (by show 0 + 1 * l.val = l.val; omega)

theorem chanRow_apply (M : Memref sig .tc .vmem S8x8x128 .f32) (v : Fin 8 → FVec Ideal S8x128 .f32) (r : Fin 8) (l : Fin 128) :
    chanRow M (stack8 v) r (ix3 0 0 l) = v r (ix2 0 l) := by
  unfold chanRow
  refine (congrFun (View.readCov_eq_canon' _ _ _) _).trans (Eq.trans ?_ (canon_stack8 v r 0 l))
  congr 1
  funext a
  match a with
  | ⟨0, _⟩ => rfl
  | ⟨1, _⟩ => rfl
  | ⟨2, _⟩ => exact Fin.ext (by show 0 + 1 * l.val = l.val; omega)

/-- A plane of 1024 columns: lane `l` of plane `r` is column `8 l + r`. -/
theorem aligned_apply {n : Nat} {α : Type} (hi : (L n).Iotas .tc 32 [1]) (hb : (L n).Broadcasts (L n)) (h : (L n).ShapeCasts ⟨3, ![n, 128, 1]⟩)
    (h' : (⟨3, ![n, 128, 1]⟩ : Shape).ShapeCasts (L n)) (hr : (L n).Rotates 1 none) (cols : Fin 8 → (L n).Idx → α) (r : Fin 8)
    (j : (L n).Idx) (c : Fin 8) (k : Fin 128) (hc : c.val = (j 1).val / 16) (hk : k.val = 8 * ((j 1).val % 16) + r.val) :
    aligned hi hb h h' hr cols r j = cols c (ix2 (j 0) k) := by
  unfold aligned
  have hj : (j 1).val < 128 := idx2_lt1 j
  split
  · rename_i h0
    subst h0
    refine planeRaw_apply hi natLt_1_32 hb h h' cols 0 j c k ?_ hk
    rw [hc]; show _ = ((j 1).val / 16 + 8 - 0) % 8; omega
  · exact plane_apply hi natLt_1_32 hb h h' hr cols r j c k hc hk

theorem scalePlane_apply (x : IVec S24x1024 8) (r : Fin 8) (g : Fin 24) (l : Fin 128) :
    scalePlane x r (ix2 g l) = (x (ix2 g (⟨8 * l.val + r.val, by omega⟩ : Fin 1024))).setWidth 32 := by
  unfold scalePlane
  rw [aligned_apply _ _ _ _ _ _ r (ix2 g l) (⟨l.val / 16, by omega⟩ : Fin 8) (⟨8 * (l.val % 16) + r.val, by omega⟩ : Fin 128) rfl rfl]
  unfold cols24
  rw [extractStridedSlice_apply _ _ _ _ (ix2 g (⟨8 * l.val + r.val, by omega⟩ : Fin 1024)) (fun a => by
    match a with
    | ⟨0, _⟩ => show g.val = 0 + g.val; omega
    | ⟨1, _⟩ => show 8 * l.val + r.val = 128 * (l.val / 16) + (8 * (l.val % 16) + r.val); omega)]
  rfl

theorem chanPlane_apply (x : FVec Ideal S1x1024 .f32) (r i : Fin 8) (l : Fin 128) :
    chanPlane x r (ix2 i l) = x (ix2 0 (⟨8 * l.val + r.val, by omega⟩ : Fin 1024)) := by
  unfold chanPlane
  rw [aligned_apply _ _ _ _ _ _ r (ix2 i l) (⟨l.val / 16, by omega⟩ : Fin 8) (⟨8 * (l.val % 16) + r.val, by omega⟩ : Fin 128) rfl rfl]
  unfold cols8
  rw [extractStridedSlice_apply _ _ _ _ (ix2 i (⟨8 * l.val + r.val, by omega⟩ : Fin 1024)) (fun a => by
    match a with
    | ⟨0, _⟩ => show i.val = 0 + i.val; omega
    | ⟨1, _⟩ => show 8 * l.val + r.val = 128 * (l.val / 16) + (8 * (l.val % 16) + r.val); omega)]
  rw [shapeCast_self, shapeCast_self]
  exact broadcastTo_apply _ _ _ _ (fun a => by
    match a with
    | ⟨0, _⟩ => rfl
    | ⟨1, _⟩ => rfl)

theorem zeroWord_apply (z : IVec S24x128 32) (r : Fin 8) (j : S24x128.Idx) :
    zeroWord z (fieldShift r) j = (nib (z j) (field r) ||| (nib (z j) (field r) <<< 16)) ||| 1124090624#32 := by
  have e : IntOp.shrui .vector (z j) (fieldShift r) = z j >>> (4 * field r) := by
    revert r
    intro r
    fin_cases r <;> rfl
  show ((IntOp.shrui .vector (z j) (fieldShift r) &&& 15#32) ||| IntOp.shli .vector (IntOp.shrui .vector (z j) (fieldShift r) &&& 15#32) 16#32) ||| 1124090624#32 = _
  rw [e]
  rfl

theorem scaleWord_apply (n : IVec S24x128 32) (j : S24x128.Idx) : scaleWord n j = scaleWord1 (n j) := rfl

/-- The loads of a point hold its blocks. -/
theorem holds (arg2 : Memref sig .tc .vmem S3072x128 .i32) (harg2 : arg2.IsWhole) (arg3 : Memref sig .tc .vmem S24x128 .i32) (harg3 : arg3.IsWhole)
    (arg4 : Memref sig .tc .vmem S24x1024 .i8) (harg4 : arg4.IsWhole) (arg11 arg12 : Memref sig .tc .vmem S8x24x128 .i32)
    (x1 : Vec Ideal S3072x128 .i32) (x2 : Vec Ideal S24x128 .i32) (x3 : Vec Ideal S24x1024 .i8) (X : Fin 12 → FVec Ideal S256x256 .bf16)
    (xb : FVec Ideal S256x3072 .bf16) (hX : ∀ (k : Fin 12) (m j : Fin 256), X k (ix2 m j) = xb (ix2 m (rowOf k j))) :
    Holds (loads arg2 harg2 arg3 harg3 arg4 harg4 arg11 arg12 x1 x2 x3 X) x1 x2 x3 xb where
  a g i l := by
    show wordsA arg2 harg2 x1 g (ix2 i l) = _
    unfold wordsA
    rw [View.readAt_eq_ld, Memref.IsWhole.read_unread]
    exact View.ld_unit_apply_of _ _ _ _ _ _ (fun a => by
      match a with
      | ⟨0, _⟩ => rfl
      | ⟨1, _⟩ => show l.val = 0 + l.val; omega)
  b g i l := by
    show wordsB arg2 harg2 x1 g (ix2 i l) = _
    unfold wordsB
    rw [View.readAt_eq_ld, Memref.IsWhole.read_unread]
    exact View.ld_unit_apply_of _ _ _ _ _ _ (fun a => by
      match a with
      | ⟨0, _⟩ => rfl
      | ⟨1, _⟩ => show l.val = 0 + l.val; omega)
  z r g l := by
    show tableRow arg11 (zeros arg3 harg3 x2) r g (ix3 0 0 l) = _
    unfold zeros
    rw [tableRow_apply, zeroWord_apply, View.readAt_eq_ld, Memref.IsWhole.read_unread, View.ld_unit_lit _ _ (by decide)]
  s r g l := by
    show tableRow arg12 (scales arg4 harg4 x3) r g (ix3 0 0 l) = _
    unfold scales
    rw [tableRow_apply, scaleWord_apply, scalePlane_apply, View.readAt_eq_ld, Memref.IsWhole.read_unread, View.ld_unit_lit _ _ (by decide)]
  x k m j := hX k m j

theorem chans_apply (M : Memref sig .tc .vmem S8x8x128 .f32) (arg5 : Memref sig .tc .vmem S1x1024 .f32) (harg5 : arg5.IsWhole) (x4 : Vec Ideal S1x1024 .f32)
    (r : Fin 8) (l : Fin 128) : chanRow M (chans arg5 harg5 x4) r (ix3 0 0 l) = x4 (ix2 0 (⟨8 * l.val + r.val, by omega⟩ : Fin 1024)) := by
  unfold chans
  rw [chanRow_apply, chanPlane_apply, View.readAt_eq_ld, Memref.IsWhole.read_unread, View.ld_unit_lit _ _ (by decide)]

/-! ## The output block -/

theorem rowsOfParity_at (q : Fin 2) (x : FVec Ideal S256x128 .bf16) (i l : Fin 128) :
    rowsOfParity q S128x128 x bitcasts_S256x128_w16_S128x128_w32 (ix2 i l) = x (ix2 (⟨2 * i.val + q.val, by omega⟩ : Fin 256) l) := by
  rw [rowsOfParity_eq_srcIdx]
  refine congrArg x (funext fun a => ?_)
  match a with
  | ⟨0, _⟩ => exact Fin.ext (Shape.Bitcasts.srcIdx_row _ _ _ _ 0 rfl)
  | ⟨1, _⟩ => exact Fin.ext (Shape.Bitcasts.srcIdx_other _ _ _ _ 1 (by decide))

theorem colBlock_apply (P : Fin 8 → FVec Ideal S256x128 .bf16) (c : Fin 8) (m : Fin 256) (l : Fin 128) :
    colBlock P c (ix2 m l) = P (⟨l.val % 8, by omega⟩ : Fin 8) (ix2 m (⟨16 * c.val + l.val / 8, by omega⟩ : Fin 128)) := by
  unfold colBlock
  rw [truncf_apply, gather_collect _ _ natLt_1_32 _ _ _ c (ix2 m l) (⟨16 * ((l.val + c.val) % 8) + l.val / 8, by omega⟩ : Fin 128) rfl, extf_apply]
  have key : ∀ q : Fin 2, ∀ i : Fin 128, m.val = 2 * i.val + q.val →
      mixedRows q P c (ix2 i (⟨16 * ((l.val + c.val) % 8) + l.val / 8, by omega⟩ : Fin 128)) = P (⟨l.val % 8, by omega⟩ : Fin 8) (ix2 m (⟨16 * c.val + l.val / 8, by omega⟩ : Fin 128)) := by
    intro q i hm
    unfold mixedRows
    rw [mixed_apply _ natLt_1_32 _ _ c _ (⟨l.val % 8, by omega⟩ : Fin 8) (⟨16 * c.val + l.val / 8, by omega⟩ : Fin 128)
      (by show l.val % 8 = ((16 * ((l.val + c.val) % 8) + l.val / 8) / 16 + 8 - c.val) % 8; rw [show (16 * ((l.val + c.val) % 8) + l.val / 8) / 16 = (l.val + c.val) % 8 by omega]; omega)
      (by show 16 * c.val + l.val / 8 = 16 * c.val + (16 * ((l.val + c.val) % 8) + l.val / 8) % 16; omega)]
    refine (rowsOfParity_at q _ i _).trans ?_
    congr 2
    exact Fin.ext hm.symm
  have word : ∀ i : Fin 128, i.val = m.val / 2 → ∀ k : Fin 128, (fun b : Fin 2 => if hb : (b.cast (bitcasts_S256x128_w16_S128x128_w32).1).val + 2 = S256x128.rank then
      (⟨((ix2 m k : S256x128.Idx) (b.cast (bitcasts_S256x128_w16_S128x128_w32).1)).val / 2, by revert hb; match b with | ⟨0, _⟩ => intro _; show m.val / 2 < 128; omega | ⟨1, _⟩ => intro hb; exact absurd (show (3 : Nat) = 2 from hb) (by decide)⟩ : Fin (S128x128.size b))
      else ((ix2 m k : S256x128.Idx) (b.cast (bitcasts_S256x128_w16_S128x128_w32).1)).cast (by revert hb; match b with | ⟨0, _⟩ => intro hb; exact absurd rfl hb | ⟨1, _⟩ => intro _; rfl)) = ix2 i k := by
    intro i hi k
    funext b
    match b with
    | ⟨0, _⟩ => exact Fin.ext hi.symm
    | ⟨1, _⟩ => rfl
  have hrow : S256x128.row (ix2 m (⟨16 * ((l.val + c.val) % 8) + l.val / 8, by omega⟩ : Fin 128)) = m.val := rfl
  unfold interleaveRows
  dsimp only
  rw [hrow]
  rcases Nat.mod_two_eq_zero_or_one m.val with h | h
  · rw [if_pos h]
    refine Eq.trans (congrArg _ (word ⟨m.val / 2, by omega⟩ rfl _)) (key 0 ⟨m.val / 2, by omega⟩ ?_)
    show m.val = 2 * (m.val / 2) + 0; omega
  · rw [if_neg (by omega)]
    refine Eq.trans (congrArg _ (word ⟨m.val / 2, by omega⟩ rfl _)) (key 1 ⟨m.val / 2, by omega⟩ ?_)
    show m.val = 2 * (m.val / 2) + 1; omega

/-- The output block read at a column: plane `col mod 8`, lane `col / 8`. -/
theorem canon_blocks (P : Fin 8 → FVec Ideal S256x128 .bf16) (m : Fin 256) (j : Fin 1024) :
    View.canon (blocks P) (ix2 m j) = P (⟨j.val % 8, by omega⟩ : Fin 8) (ix2 m (⟨j.val / 8, by omega⟩ : Fin 128)) := by
  refine View.canon_apply_of_pieces (Val := Elt Ideal) (e := .bf16)
    (fun y : S256x1024.Idx => P (⟨(y 1).val % 8, by omega⟩ : Fin 8) (ix2 (y 0) (⟨(y 1).val / 8, by have : (y 1).val < 1024 := (y 1).isLt; omega⟩ : Fin 128)))
    (blocks P) (fun p hp x => ?_) (ix2 m j) ⟨_, List.mem_map_of_mem (mem8 ⟨j.val / 128, by omega⟩), ?_⟩
  · obtain ⟨c, _, rfl⟩ := List.mem_map.1 hp
    have hx : x = ix2 (⟨(x 0).val, (x 0).isLt⟩ : Fin 256) (⟨(x 1).val, (x 1).isLt⟩ : Fin 128) := eq_ix2 x
    have h1 : (x 1).val < 128 := (x 1).isLt
    refine (congrArg (colBlock P c) hx).trans ((colBlock_apply P c _ _).trans ?_)
    refine congr (congrArg P (Fin.ext ?_)) (funext fun a => ?_)
    · show (x 1).val % 8 = (128 * c.val + 1 * (x 1).val) % 8; omega
    · match a with
      | ⟨0, _⟩ => exact Fin.ext (by show (x 0).val = 0 + 1 * (x 0).val; omega)
      | ⟨1, _⟩ => exact Fin.ext (by show 16 * c.val + (x 1).val / 8 = (128 * c.val + 1 * (x 1).val) / 8; omega)
  · refine (Rect.mem_set_unit (inb := inbCol ⟨j.val / 128, by omega⟩)).2 fun a => ?_
    match a with
    | ⟨0, _⟩ => show 0 ≤ m.val ∧ m.val < 0 + 256; omega
    | ⟨1, _⟩ => show 128 * (j.val / 128) ≤ j.val ∧ j.val < 128 * (j.val / 128) + 128; omega

theorem plane_at (A : Fin 4 → FVec Ideal S256x256 .f32) (sx : FVec Ideal S256x128 .f32) (ch : Fin 8 → FVec Ideal S1x1x128 .f32) (r : Fin 8) (m : Fin 256) (l : Fin 128) :
    plane A sx ch r (ix2 m l) = A (⟨r.val / 2, by omega⟩ : Fin 4) (ix2 m (⟨128 * (r.val % 2) + l.val, by omega⟩ : Fin 256)) * sx (ix2 m l) * ch r (ix3 0 0 l) := by
  unfold plane
  rw [truncf_apply, mulf_apply, mulf_apply]
  congr 1
  · congr 1
    exact extractStridedSlice_apply _ _ _ _ _ (fun a => by
      match a with
      | ⟨0, _⟩ => show m.val = 0 + m.val; omega
      | ⟨1, _⟩ => rfl)
  · unfold rows256
    rw [broadcastTo_apply _ _ _ (ix2 (0 : Fin 1) l) (fun a => by match a with | ⟨0, _⟩ => rfl | ⟨1, _⟩ => rfl)]
    refine (shapeCast_dropUnit_apply ![1, 128] (ch r) shapeCasts_S1x1x128_S1x128 (ix2 (0 : Fin 1) l)).trans (congrArg (ch r) (funext fun a => ?_))
    match a with
    | ⟨0, _⟩ => rfl
    | ⟨1, _⟩ => rfl
    | ⟨2, _⟩ => rfl

/-- What a point writes to the output: the sum over the 3072 rows of code times weight, times the row's scale, times the channel's. -/
theorem yPieces_apply {V : Loads Ideal} {W : IVec S3072x128 32} {Z : IVec S24x128 32} {SG : IVec S24x1024 8} {xb : FVec Ideal S256x3072 .bf16}
    (H : Holds V W Z SG xb) (q : Fin 256 → Fin 3072 → EReal) (hq : ∀ m k, xb (ix2 m k) = q m (unpair k)) (sx : FVec Ideal S256x128 .f32)
    (M : Memref sig .tc .vmem S8x8x128 .f32) (arg5 : Memref sig .tc .vmem S1x1024 .f32) (harg5 : arg5.IsWhole) (x4 : Vec Ideal S1x1024 .f32) (m : Fin 256) (j : Fin 1024) :
    View.canon (yPieces V sx M (chans arg5 harg5 x4)) (ix2 m j)
      = (∑ k : Fin 3072, q m k * wt W Z SG k (⟨j.val / 8, by omega⟩ : Fin 128) (⟨j.val % 8, by omega⟩ : Fin 8)) * sx (ix2 m (⟨j.val / 8, by omega⟩ : Fin 128)) * x4 (ix2 0 j) := by
  unfold yPieces
  rw [canon_blocks, plane_at, acc_apply H q hq, chans_apply]
  congr 1
  · congr 1
    refine Finset.sum_congr rfl fun k _ => ?_
    congr 2
    · apply Fin.ext; show (128 * (j.val % 8 % 2) + j.val / 8) % 128 = j.val / 8; omega
    · apply Fin.ext; show 2 * (j.val % 8 / 2) + (128 * (j.val % 8 % 2) + j.val / 8) / 128 = j.val % 8; omega
  · congr 2
    apply Fin.ext; show 8 * (j.val / 8) + j.val % 8 = j.val; omega

end Cert.KernelIdeal.Body

end
-- ==== Proof.Quant.lean ====
/- The quantiser, row by row: a row's scale, its codes, and that every code is an integer between -127 and 127. -/
module

public import proofs.«01_k».proof.Proof.Bridge
public import proofs.«01_k».proof.Proof.Tile
public import proofs.«01_k».proof.Proof.Table
public import Idealize.ShloMosaic.PureOps.Ideal.Laws

@[expose] public section

set_option maxRecDepth 16384

noncomputable section

namespace Cert.W4A8

open Idealize.ShloMosaic Idealize.ShloMosaic.ValueIdx

/-- A row's largest magnitude. -/
def rowMax (r : Fin 3072 → EReal) : EReal :=
  (Finset.univ : Finset (Fin 3072)).fold max (Ideal.ofBits .f32 0xFF800000#32) fun k => max (r k) (-(r k))

/-- A row's scale: its largest magnitude over 127, and 1 for a row of zeros. -/
def rowScale (r : Fin 3072 → EReal) : EReal :=
  Scalar.select (Ideal.cmp .oeq (rowMax r) (Ideal.ofBits .f32 0x00000000#32)) (Ideal.ofBits .f32 0x3F800000#32)
    (Ideal.div (rowMax r) (Ideal.ofBits .f32 0x42FE0000#32))

/-- A number to the nearest integer, held between -127 and 127. -/
def clampRound (e : EReal) : EReal :=
  min (Ideal.ofBits .f32 0x42FE0000#32) (max (Ideal.ofBits .f32 0xC2FE0000#32) (Ideal.liftRound Ideal.roundHalfEven e))

/-- A row's code as a number. -/
def quant (r : Fin 3072 → EReal) (k : Fin 3072) : EReal := clampRound (Ideal.div (r k) (rowScale r))

theorem ofBits_127 : Ideal.ofBits .f32 0x42FE0000#32 = ((127 : ℝ) : EReal) := by
  simp [Ideal.ofBits, Ideal.ieee]
  rw [← EReal.coe_mul]
  norm_num

theorem ofBits_neg127 : Ideal.ofBits .f32 0xC2FE0000#32 = ((-127 : ℝ) : EReal) := by
  simp [Ideal.ofBits, Ideal.ieee]
  rw [← EReal.coe_mul]
  norm_num

theorem clampRound_int (e : EReal) : ∃ n : ℤ, -127 ≤ n ∧ n ≤ 127 ∧ clampRound e = ((n : ℝ) : EReal) := by
  unfold clampRound
  rw [ofBits_127, ofBits_neg127]
  induction e with
  | bot => exact ⟨-127, by norm_num, by norm_num, by
      show min ((127 : ℝ) : EReal) (max ((-127 : ℝ) : EReal) ⊥) = _
      rw [max_eq_left bot_le, min_eq_right (EReal.coe_le_coe_iff.2 (by norm_num))]; norm_num⟩
  | top => exact ⟨127, by norm_num, by norm_num, by
      show min ((127 : ℝ) : EReal) (max ((-127 : ℝ) : EReal) ⊤) = _
      rw [max_eq_right le_top, min_eq_left le_top]; norm_num⟩
  | coe r =>
    refine ⟨min 127 (max (-127) (Ideal.roundHalfEven r)), by omega, by omega, ?_⟩
    show min ((127 : ℝ) : EReal) (max ((-127 : ℝ) : EReal) ((Ideal.roundHalfEven r : ℝ) : EReal)) = _
    generalize Ideal.roundHalfEven r = n
    have hmono : Monotone (fun x : ℤ => ((x : ℝ) : EReal)) := fun a b hab => EReal.coe_le_coe_iff.2 (by exact_mod_cast hab)
    have e1 : ((127 : ℝ) : EReal) = (((127 : ℤ) : ℝ) : EReal) := by norm_num
    have e2 : ((-127 : ℝ) : EReal) = (((-127 : ℤ) : ℝ) : EReal) := by norm_num
    rw [e1, e2]
    exact ((hmono.map_min).trans (congrArg _ hmono.map_max)).symm

/-- An integer converted to a word and back. -/
theorem toIntClamped_int (lo hi n : ℤ) (h : lo ≤ n) (h' : n ≤ hi) : Ideal.toIntClamped lo hi ((n : ℝ) : EReal) = n := by
  rw [Ideal.toIntClamped_coe]
  simp
  omega

theorem code_word (e : EReal) : (Ideal.fptosi 32 (clampRound e)).setWidth 8 = Ideal.fptosi 8 (clampRound e) := by
  obtain ⟨n, h, h', hn⟩ := clampRound_int e
  rw [hn]
  unfold Ideal.fptosi
  rw [toIntClamped_int _ _ n (by norm_num; omega) (by norm_num; omega), toIntClamped_int _ _ n (by norm_num; omega) (by norm_num; omega)]
  interval_cases n <;> rfl

theorem code_value (e : EReal) : (((((Ideal.fptosi 8 (clampRound e)).signExtend 32).toInt : ℝ)) : EReal) = clampRound e := by
  obtain ⟨n, h, h', hn⟩ := clampRound_int e
  rw [hn]
  unfold Ideal.fptosi
  rw [toIntClamped_int _ _ n (by norm_num; omega) (by norm_num; omega)]
  congr 2
  interval_cases n <;> rfl

end Cert.W4A8

namespace Cert.KernelIdeal.Body

open Idealize.ShloMosaic Idealize.ShloMosaic.ValueIdx Cert.W4A8 Cert.KernelIdeal.Gen

variable (v : Vec Ideal S256x3072 .bf16)

/-- A row of the activations. -/
def row (m : Fin 256) (k : Fin 3072) : EReal := v (ix2 m k)

theorem pay1_apply (m : Fin 256) (k : Fin 3072) : k0_pay1 v (ix2 m k) = row v m k := by
  unfold k0_pay1
  rw [extf_apply, shapeCast_self]
  rfl

/-- The scale from the largest magnitude, at an index. -/
theorem scale_point (M : FVec Ideal S256x1 .f32) (i : S256x1.Idx) (r : Fin 3072 → EReal) (h : M i = rowMax r) :
    select (cmpf .oeq M (broadcast S256x1 (Scalar.ofBits .f32 0x00000000#32))) (broadcast S256x1 (Scalar.ofBits .f32 0x3F800000#32))
      (divf M (broadcast S256x1 (Scalar.ofBits .f32 0x42FE0000#32))) i = rowScale r := by
  unfold rowScale
  rw [← h]
  rfl

/-- The code from its value and its scale, at an index. -/
theorem code_point (X S : FVec Ideal S256x3072 .f32) (i : S256x3072.Idx) :
    minimumf (broadcast S256x3072 (Scalar.ofBits .f32 0x42FE0000#32)) (maximumf (broadcast S256x3072 (Scalar.ofBits .f32 0xC2FE0000#32)) (roundeven (divf X S))) i
      = clampRound (Ideal.div (X i) (S i)) := rfl

theorem max_apply (m : Fin 256) :
    shapeCast S256x1 (multiReduction .maximumf [1] S256 (absf (k0_pay1 v)) 0xFF800000#32 reduces_S256x3072_S256 (.inl rfl) rfl) shapeCasts_S256_S256x1 (ix2 m 0)
      = rowMax (row v m) := by
  refine (shapeCast_apply _ _ _ (ix1 m) ?_).trans ?_
  · refine (Shape.rowMajor_val_one (ix1 m)).trans (Eq.trans ?_ (Shape.rowMajor_val_two (ix2 m (0 : Fin 1))).symm)
    show m.val = m.val * 1 + 0
    omega
  refine (Ideal.multiReduction_maximumf_single (a := 1) (absf (k0_pay1 v)) 0xFF800000#32 reduces_S256x3072_S256 (.inl rfl) rfl (ix1 m)).trans ?_
  unfold rowMax
  refine congrArg (fun f => Finset.fold max (Ideal.ofBits .f32 0xFF800000#32) f (Finset.univ : Finset (Fin 3072))) (funext fun k => ?_)
  have e : reduces_S256x3072_S256.lift (ix1 m) k = ix2 m k := by
    funext a
    match a with
    | ⟨0, _⟩ => rfl
    | ⟨1, _⟩ => rfl
  show max (k0_pay1 v (reduces_S256x3072_S256.lift (ix1 m) k)) (-(k0_pay1 v (reduces_S256x3072_S256.lift (ix1 m) k))) = _
  rw [e]
  exact congrArg (fun z : EReal => max z (-z)) (pay1_apply v m k)

theorem pay2_apply (m : Fin 256) : k0_pay2 v (ix2 m 0) = rowScale (row v m) := scale_point _ _ _ (max_apply v m)

theorem pay3_apply (m : Fin 256) (k : Fin 3072) : k0_pay3 v (ix2 m k) = quant (row v m) k := by
  refine (code_point (k0_pay1 v) (broadcastTo S256x3072 (k0_pay2 v) broadcasts_S256x1_S256x3072) (ix2 m k)).trans ?_
  rw [broadcastTo_apply _ _ _ (ix2 m 0) (fun a => by match a with | ⟨0, _⟩ => rfl | ⟨1, _⟩ => rfl), pay1_apply, pay2_apply]
  rfl

theorem pay4_apply (m : Fin 256) (k : Fin 3072) : k0_pay4 v (ix2 m k) = Ideal.fptosi 8 (quant (row v m) k) := by
  unfold k0_pay4
  show Ideal.fptosi 8 (k0_pay3 v (ix2 m k)) = _
  rw [pay3_apply]

theorem pay5_apply (m : Fin 256) (l : Fin 128) : k0_pay5 v (ix2 m l) = rowScale (row v m) := by
  unfold k0_pay5
  rw [shapeCast_self, shapeCast_self, broadcastTo_apply _ _ _ (ix2 m 0) (fun a => by match a with | ⟨0, _⟩ => rfl | ⟨1, _⟩ => rfl), pay2_apply]

theorem pay6_apply (l : Fin 128) : k0_pay6 v (ix2 0 l) = rowScale (row v (⟨l.val, by omega⟩ : Fin 256)) := by
  unfold k0_pay6
  rw [extractStridedSlice_apply _ _ _ _ (ix2 (0 : Fin 128) l) (fun a => by
    match a with
    | ⟨0, _⟩ => rfl
    | ⟨1, _⟩ => show l.val = 0 + l.val; omega)]
  rw [transpose_apply _ _ _ _ (ix2 l (0 : Fin 128)) (fun a => by match a with | ⟨0, _⟩ => rfl | ⟨1, _⟩ => rfl)]
  rw [broadcastTo_apply _ _ _ (ix2 l (0 : Fin 1)) (fun a => by match a with | ⟨0, _⟩ => rfl | ⟨1, _⟩ => rfl), shapeCast_self]
  rw [extractStridedSlice_apply _ _ _ _ (ix2 (⟨l.val, by omega⟩ : Fin 256) (0 : Fin 1)) (fun a => by
    match a with
    | ⟨0, _⟩ => show l.val = 0 + l.val; omega
    | ⟨1, _⟩ => rfl), pay2_apply]

theorem pay7_apply (l : Fin 128) : k0_pay7 v (ix2 0 l) = rowScale (row v (⟨128 + l.val, by omega⟩ : Fin 256)) := by
  unfold k0_pay7
  rw [extractStridedSlice_apply _ _ _ _ (ix2 (0 : Fin 128) l) (fun a => by
    match a with
    | ⟨0, _⟩ => rfl
    | ⟨1, _⟩ => show l.val = 0 + l.val; omega)]
  rw [transpose_apply _ _ _ _ (ix2 l (0 : Fin 128)) (fun a => by match a with | ⟨0, _⟩ => rfl | ⟨1, _⟩ => rfl)]
  rw [broadcastTo_apply _ _ _ (ix2 l (0 : Fin 1)) (fun a => by match a with | ⟨0, _⟩ => rfl | ⟨1, _⟩ => rfl), shapeCast_self]
  rw [extractStridedSlice_apply _ _ _ _ (ix2 (⟨128 + l.val, by omega⟩ : Fin 256) (0 : Fin 1)) (fun a => by
    match a with
    | ⟨0, _⟩ => rfl
    | ⟨1, _⟩ => rfl), pay2_apply]

theorem readX_eq (arg1 : Memref sig .tc .vmem S256x3072 .bf16) (harg1 : arg1.IsWhole) : readX arg1 harg1 v = v := by
  unfold readX
  rw [View.readAt_eq_ld, Memref.IsWhole.read_unread, View.ld_unit_lit _ _ (by decide)]

/-! ## The codes in the paired order -/

theorem inbGroup (g : Fin 24) : ∀ a, (![0, 128 * g.val] : Fin 2 → Nat) a + S256x128.size a ≤ S256x3072.size a := by revert g; decide

theorem mem24 (g : Fin 24) : g ∈ ([23, 22, 21, 20, 19, 18, 17, 16, 15, 14, 13, 12, 11, 10, 9, 8, 7, 6, 5, 4, 3, 2, 1, 0] : List (Fin 24)) := by revert g; decide

theorem pairedGroup_apply (q : FVec Ideal S256x3072 .f32) (g : Fin 24) (m : Fin 256) (l : Fin 128) :
    pairedGroup q g (ix2 m l) = q (ix2 m (unpair (⟨128 * g.val + l.val, by omega⟩ : Fin 3072))) := by
  unfold pairedGroup
  rw [shapeCast_self, truncf_apply, gather_pair _ _ _ _ _ _ (ix2 m l) (⟨l.val / 2 + l.val % 2 * 64, by omega⟩ : Fin 128) rfl]
  refine extractStridedSlice_apply _ _ _ _ _ (fun a => ?_)
  match a with
  | ⟨0, _⟩ => show m.val = 0 + m.val; omega
  | ⟨1, _⟩ =>
    show 128 * ((128 * g.val + l.val) / 128) + (128 * g.val + l.val) % 128 / 2 + 64 * ((128 * g.val + l.val) % 2) = 128 * g.val + (l.val / 2 + l.val % 2 * 64)
    have h1 : (128 * g.val + l.val) / 128 = g.val := by omega
    have h2 : (128 * g.val + l.val) % 128 = l.val := by omega
    have h3 : (128 * g.val + l.val) % 2 = l.val % 2 := by omega
    rw [h1, h2, h3]; omega

theorem canon_paired (m : Fin 256) (k : Fin 3072) : View.canon (pairedPieces v) (ix2 m k) = quant (row v m) (unpair k) := by
  refine View.canon_apply_of_pieces (Val := Elt Ideal) (e := .bf16) (fun y : S256x3072.Idx => quant (row v (y 0)) (unpair (y 1))) (pairedPieces v) (fun p hp x => ?_) (ix2 m k)
    ⟨_, List.mem_map_of_mem (mem24 (⟨k.val / 128, by omega⟩ : Fin 24)), ?_⟩
  · obtain ⟨g, _, rfl⟩ := List.mem_map.1 hp
    obtain ⟨m', l, rfl⟩ : ∃ (m' : Fin 256) (l : Fin 128), x = ix2 m' l := ⟨x 0, x 1, eq_ix2 x⟩
    refine (pairedGroup_apply _ g m' l).trans ((pay3_apply v _ _).trans ?_)
    refine congr (congrArg (fun m => quant (row v m)) (Fin.ext ?_)) (congrArg unpair (Fin.ext ?_))
    · show m'.val = 0 + 1 * m'.val; omega
    · show 128 * g.val + l.val = 128 * g.val + 1 * l.val; omega
  · refine (Rect.mem_set_unit (inb := inbGroup _)).2 fun a => ?_
    match a with
    | ⟨0, _⟩ => show 0 ≤ m.val ∧ m.val < 0 + 256; omega
    | ⟨1, _⟩ => show 128 * (k.val / 128) ≤ k.val ∧ k.val < 128 * (k.val / 128) + 128; omega

theorem canon_rows (m : Fin 256) (l : Fin 128) : View.canon (rowPieces v) (ix2 m l) = rowScale (row v m) := by
  unfold rowPieces
  refine (congrFun (View.canon_cons_unit_lit _ _ _ (by decide)) _).trans ?_
  exact pay5_apply v m l

/-- The scales stored into a row of the scales result. -/
def payScale (b : Fin 2) : FVec Ideal S1x128 .f32 := match b with
  | 0 => k0_pay6 v
  | 1 => k0_pay7 v

theorem payScale_apply (b : Fin 2) (l : Fin 128) : payScale v b (ix2 0 l) = rowScale (row v (⟨128 * b.val + l.val, by omega⟩ : Fin 256)) := by
  match b with
  | 0 => exact (pay6_apply v l).trans (congrArg (fun m => rowScale (row v m)) (Fin.ext (by show l.val = 128 * 0 + l.val; omega)))
  | 1 => exact pay7_apply v l

theorem inbScale (b : Fin 2) : ∀ a, (![b.val, 0] : Fin 2 → Nat) a + S1x128.size a ≤ S2x128.size a := by revert b; decide

/-- The pieces of the scales result: 128 rows each. -/
def scalePieces : List (View.Piece (Elt Ideal) S2x128 .f32) :=
  [1, 0].map fun b : Fin 2 => ⟨Rect.unit (s := S2x128) ![b.val, 0] S1x128.size (inbScale b), payScale v b⟩

theorem canon_scales (b : Fin 2) (s : Fin 128) : View.canon (scalePieces v) (ix2 b s) = rowScale (row v (⟨128 * b.val + s.val, by omega⟩ : Fin 256)) := by
  refine View.canon_apply_of_pieces (Val := Elt Ideal) (e := .f32) (fun y : S2x128.Idx => rowScale (row v (⟨128 * (y 0).val + (y 1).val, by have := idx2_lt0 y; have := idx2_lt1 y; omega⟩ : Fin 256)))
    (scalePieces v) (fun p hp x => ?_) (ix2 b s) ⟨_, List.mem_map_of_mem (show b ∈ ([1, 0] : List (Fin 2)) by revert b; decide), ?_⟩
  · obtain ⟨b', _, rfl⟩ := List.mem_map.1 hp
    obtain ⟨z, l, rfl⟩ : ∃ (z : Fin 1) (l : Fin 128), x = ix2 z l := ⟨x 0, x 1, eq_ix2 x⟩
    obtain rfl : z = 0 := Subsingleton.elim _ _
    refine (payScale_apply v b' l).trans (congrArg (fun m => rowScale (row v m)) (Fin.ext ?_))
    show 128 * b'.val + l.val = 128 * (b'.val + 1 * 0) + (0 + 1 * l.val); omega
  · refine (Rect.mem_set_unit (inb := inbScale b)).2 fun a => ?_
    match a with
    | ⟨0, _⟩ => show b.val ≤ b.val ∧ b.val < b.val + 1; omega
    | ⟨1, _⟩ => show 0 ≤ s.val ∧ s.val < 0 + 128; omega

theorem tilesA_apply (arg9 : Memref sig .tc .vmem S256x3072 .bf16) (k : Fin 12) (m j : Fin 256) :
    tilesA arg9 v k (ix2 m j) = View.canon (pairedPieces v) (ix2 m (rowOf k j)) := by
  unfold tilesA
  refine (congrFun (View.readCov_eq_canon' _ _ _) _).trans ?_
  congr 1
  funext a
  match a with
  | ⟨0, _⟩ => exact Fin.ext (by show 0 + 1 * m.val = m.val; omega)
  | ⟨1, _⟩ => exact Fin.ext (by show 256 * k.val + 1 * j.val = 256 * k.val + j.val; omega)

theorem readRows (arg10 : Memref sig .tc .vmem S256x128 .f32) (m : Fin 256) (l : Fin 128) :
    arg10.view.readCov (Val := Elt Ideal) (rowPieces v) (Rect.unit (s := S256x128) ![0, 0] S256x128.size (by decide)).toLoadRect (ix2 m l) = rowScale (row v m) := by
  refine (congrFun (View.readCov_eq_canon' _ _ _) _).trans (Eq.trans ?_ (canon_rows v m l))
  congr 1
  funext a
  match a with
  | ⟨0, _⟩ => exact Fin.ext (by show 0 + 1 * m.val = m.val; omega)
  | ⟨1, _⟩ => exact Fin.ext (by show 0 + 1 * l.val = l.val; omega)

theorem tilesB_apply (arg9 : Memref sig .tc .vmem S256x3072 .bf16) (harg9 : arg9.IsWhole) (xb : Vec Ideal S256x3072 .bf16) (k : Fin 12) (m j : Fin 256) :
    tilesB arg9 harg9 xb k (ix2 m j) = xb (ix2 m (rowOf k j)) := by
  unfold tilesB
  rw [View.readAt_eq_ld, Memref.IsWhole.read_unread]
  exact View.ld_unit_apply_of _ _ _ _ _ _ (fun a => by
    match a with
    | ⟨0, _⟩ => show m.val = 0 + m.val; omega
    | ⟨1, _⟩ => rfl)

end Cert.KernelIdeal.Body

end
-- ==== Proof.Points.lean ====
/- What a grid point leaves: the first point quantises and stores the codes, their scales and its block of the output; a later
   point stores its block and keeps the rest. -/
module

public import proofs.«01_k».proof.Proof.Blocks
public import proofs.«01_k».proof.Proof.Quant

@[expose] public section

set_option maxRecDepth 16384

noncomputable section

namespace Cert.KernelIdeal.Body

open Idealize.ShloMosaic Idealize.ShloMosaic.TcCoe Idealize.ShloMosaic.ValueIdx Cert.W4A8 Cert.KernelIdeal.Gen Cert.KernelIdeal.Value

/-- A column of a point's output block: the codes times the dequantised weights, summed, times the row's scale and the column's. -/
def yOut (v : Vec Ideal S256x3072 .bf16) (W : IVec S3072x128 32) (Z : IVec S24x128 32) (SG : IVec S24x1024 8) (SC : FVec Ideal S1x1024 .f32) (m : Fin 256) (j : Fin 1024) : EReal :=
  (∑ k : Fin 3072, quant (row v m) k * wt W Z SG k (⟨j.val / 8, by omega⟩ : Fin 128) (⟨j.val % 8, by omega⟩ : Fin 8)) * rowScale (row v m) * SC (ix2 0 j)

section Point

variable (c : Dev nD) (i : grid0.Coords) (arg1 : Memref sig .tc .vmem S256x3072 .bf16) (harg1 : arg1.IsWhole) (arg2 : Memref sig .tc .vmem S3072x128 .i32) (harg2 : arg2.IsWhole) (arg3 : Memref sig .tc .vmem S24x128 .i32) (harg3 : arg3.IsWhole)
    (arg4 : Memref sig .tc .vmem S24x1024 .i8) (harg4 : arg4.IsWhole) (arg5 : Memref sig .tc .vmem S1x1024 .f32) (harg5 : arg5.IsWhole)
    (arg6 : Memref sig .tc .vmem S256x1024 .bf16) (harg6 : arg6.IsWhole) (arg7 : Memref sig .tc .vmem S256x3072 .i8) (harg7 : arg7.IsWhole) (arg8 : Memref sig .tc .vmem S2x128 .f32) (harg8 : arg8.IsWhole)
    (arg9 : Memref sig .tc .vmem S256x3072 .bf16) (harg9 : arg9.IsWhole) (arg10 : Memref sig .tc .vmem S256x128 .f32) (harg10 : arg10.IsWhole)
    (arg11 : Memref sig .tc .vmem S8x24x128 .i32) (harg11 : arg11.IsWhole) (arg12 : Memref sig .tc .vmem S8x24x128 .i32) (harg12 : arg12.IsWhole) (arg13 : Memref sig .tc .vmem S8x8x128 .f32) (harg13 : arg13.IsWhole)
    (x0 : Vec Ideal S256x3072 .bf16) (x1 : Vec Ideal S3072x128 .i32) (x2 : Vec Ideal S24x128 .i32) (x3 : Vec Ideal S24x1024 .i8) (x4 : Vec Ideal S1x1024 .f32)
    (xs0 : Vec Ideal S256x3072 .bf16) (xs1 : Vec Ideal S256x128 .f32)

theorem first_y (hc0 : cond0_0 i) (m : Fin 256) (j : Fin 1024) :
    out0_A_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 m j)
      = yOut x0 x1 x2 x3 x4 m j := by
  unfold out0_A_5
  rw [View.read_writes_junk_eq_canon, pieces_A, readX_eq,
    yPieces_apply (holds arg2 harg2 arg3 harg3 arg4 harg4 arg11 arg12 x1 x2 x3 (tilesA arg9 x0) (View.canon (pairedPieces x0)) (tilesA_apply x0 arg9))
      (fun m k => quant (row x0 m) k) (canon_paired x0), readRows]
  rfl

theorem first_codes (hc0 : cond0_0 i) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4
      = k0_pay4 x0 := by
  unfold out0_A_6
  rw [View.read_writes_junk_eq_canon, codes_A, readX_eq]
  exact View.canon_cons_unit_lit _ _ _ (by decide)

theorem first_scales (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4
      = View.canon (scalePieces x0) := by
  unfold out0_A_7
  rw [View.read_writes_junk_eq_canon, rowScales_A, readX_eq]
  rfl

theorem first_paired (hc0 : cond0_0 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4
      = View.canon (pairedPieces x0) := by
  unfold sout0_A_0
  rw [View.read_writes_junk_eq_canon, paired_A, readX_eq]

theorem first_rows (hc0 : cond0_0 i) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4
      = View.canon (rowPieces x0) := by
  unfold sout0_A_1
  rw [View.read_writes_junk_eq_canon, rows_A, readX_eq]

theorem later_y (hc0 : ¬cond0_0 i) (v : Vec Ideal S256x3072 .bf16) (h0 : xs0 = View.canon (pairedPieces v)) (h1 : xs1 = View.canon (rowPieces v)) (m : Fin 256) (j : Fin 1024) :
    out0_B_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 (ix2 m j)
      = yOut v x1 x2 x3 x4 m j := by
  subst h0 h1
  unfold out0_B_5
  rw [View.read_writes_junk_eq_canon, pieces_B,
    yPieces_apply (holds arg2 harg2 arg3 harg3 arg4 harg4 arg11 arg12 x1 x2 x3 (tilesB arg9 harg9 (View.canon (pairedPieces v))) (View.canon (pairedPieces v)) (tilesB_apply arg9 harg9 _))
      (fun m k => quant (row v m) k) (canon_paired v), View.readAt_eq_ld, Memref.IsWhole.read_unread, View.ld_unit_lit _ _ (by decide), canon_rows]
  rfl

end Point

/-! ## The points in order -/

variable (m : (ℓ : Loc nD τ sig) → Buf (Elt Ideal) ℓ)

/-- The activations every point sees: the first point's block. -/
def acts (c : Dev nD) : Vec Ideal S256x3072 .bf16 := iblk m c 0 (⟨0, lt_of_lt_of_eq (by decide) N_0.symm⟩ : Fin cfg0.N)

/-- After a point: its block of the output, and what the first point left. -/
structure Left (c : Dev nD) (t : Fin cfg0.N) (acc : Vec Ideal S256x1024 .bf16 × Vec Ideal S256x3072 .i8 × Vec Ideal S2x128 .f32 × Vec Ideal S256x3072 .bf16 × Vec Ideal S256x128 .f32) : Prop where
  y : ∀ (i : Fin 256) (j : Fin 1024), acc.1 (ix2 i j) = yOut (acts m c) (iblk m c 1 t) (iblk m c 2 t) (iblk m c 3 t) (iblk m c 4 t) i j
  codes : acc.2.1 = k0_pay4 (acts m c)
  scales : acc.2.2.1 = View.canon (scalePieces (acts m c))
  paired : acc.2.2.2.1 = View.canon (pairedPieces (acts m c))
  rows : acc.2.2.2.2 = View.canon (rowPieces (acts m c))

theorem left_mk (c : Dev nD) (t : Fin cfg0.N) {acc : Vec Ideal S256x1024 .bf16 × Vec Ideal S256x3072 .i8 × Vec Ideal S2x128 .f32 × Vec Ideal S256x3072 .bf16 × Vec Ideal S256x128 .f32}
    {a : Vec Ideal S256x1024 .bf16} {b : Vec Ideal S256x3072 .i8} {s : Vec Ideal S2x128 .f32} {d : Vec Ideal S256x3072 .bf16} {e : Vec Ideal S256x128 .f32}
    (h : acc = (a, b, s, d, e)) (hy : ∀ (i : Fin 256) (j : Fin 1024), a (ix2 i j) = yOut (acts m c) (iblk m c 1 t) (iblk m c 2 t) (iblk m c 3 t) (iblk m c 4 t) i j)
    (hb : b = k0_pay4 (acts m c)) (hs : s = View.canon (scalePieces (acts m c))) (hd : d = View.canon (pairedPieces (acts m c)))
    (he : e = View.canon (rowPieces (acts m c))) : Left m c t acc := by
  subst h
  exact ⟨hy, hb, hs, hd, he⟩

theorem left_first (c : Dev nD) (t : Fin cfg0.N) (h : t.val = 0) (ha : iblk m c 0 t = acts m c) :
    Left m c t (stAt0 m c t.val t.isLt junk0) := by
  refine left_mk m c t (stAt0_A m c t junk0 (by rw [h])) (fun i j => ?_) ?_ ?_ ?_ ?_
  · rw [← ha]; exact first_y ..
  · rw [← ha]; exact first_codes ..
  · rw [← ha]; exact first_scales ..
  · rw [← ha]; exact first_paired ..
  · rw [← ha]; exact first_rows ..

theorem left_next (c : Dev nD) (t t' : Fin cfg0.N) (h : ¬t.val % 8 = 0) {acc : Vec Ideal S256x1024 .bf16 × Vec Ideal S256x3072 .i8 × Vec Ideal S2x128 .f32 × Vec Ideal S256x3072 .bf16 × Vec Ideal S256x128 .f32}
    (hp : Left m c t' acc) : Left m c t (stAt0 m c t.val t.isLt acc) := by
  refine left_mk m c t (stAt0_B m c t acc h) (fun i j => ?_) ?_ ?_ ?_ ?_
  · apply later_y
    · exact hp.paired
    · exact hp.rows
  · exact hp.codes
  · exact hp.scales
  · exact hp.paired
  · exact hp.rows

theorem left_all (c : Dev nD) (n : ℕ) (h : n < cfg0.N) : Left m c ⟨n, h⟩ (outsAt0 m c n h) := by
  induction n with
  | zero =>
    rw [outsAt0_zero]
    exact left_first m c ⟨0, h⟩ rfl rfl
  | succ n ih =>
    have hN : n + 1 < 8 := lt_of_lt_of_eq h (show cfg0.N = 8 from N_0)
    rw [outsAt0_succ]
    exact left_next m c ⟨n + 1, h⟩ _ (by show ¬(n + 1) % 8 = 0; omega) (ih _)

/-! ## The arrays -/

theorem codes_array (c : Dev nD) : G6 m c = k0_pay4 (acts m c) := by
  rw [G6_last, ← outsAt0_sweep m c 7 (lt_of_lt_of_eq (by decide) N_0.symm)]
  exact (left_all m c 7 _).codes

theorem scales_array (c : Dev nD) : G7 m c = View.canon (scalePieces (acts m c)) := by
  rw [G7_last, ← outsAt0_sweep m c 7 (lt_of_lt_of_eq (by decide) N_0.symm)]
  exact (left_all m c 7 _).scales

theorem y_array (c : Dev nD) (i : Fin 256) (j : Fin 8192) (t : Fin cfg0.N) (ht : t.val = j.val / 1024) :
    G5 m c (ix2 i j) = yOut (acts m c) (iblk m c 1 t) (iblk m c 2 t) (iblk m c 3 t) (iblk m c 4 t) i (⟨j.val % 1024, by omega⟩ : Fin 1024) := by
  have hp : pt5Of (ix2 i j) = t.val := by
    show 8 * (i.val / 256 - 0) + 1 * (j.val / 1024 - 0) = t.val
    omega
  have hl : loc5Of (ix2 i j) = ix2 i (⟨j.val % 1024, by omega⟩ : Fin 1024) := by
    funext a
    match a with
    | ⟨0, _⟩ => exact Fin.ext (by show i.val % 256 = i.val; omega)
    | ⟨1, _⟩ => exact Fin.ext (by show j.val % 1024 = j.val % 1024; rfl)
  unfold G5
  have hlt : pt5Of (ix2 i j) < cfg0.N := by rw [hp]; exact t.isLt
  rw [dif_pos hlt, ← outsAt0_sweep m c _ hlt, hl]
  have e : ∀ (n : ℕ) (hn : n < cfg0.N), n = t.val → outsAt0 m c n hn = outsAt0 m c t.val t.isLt := fun n hn h => by subst h; rfl
  rw [e _ _ hp]
  exact (left_all m c t.val t.isLt).y i _

end Cert.KernelIdeal.Body

end
-- ==== Proof.Inputs.lean ====
/- The blocks that a grid point reads, as places of the arguments: the activations' rows whole, and the point's 128 columns of words
   and 1024 columns of scales. -/
module

public import proofs.«01_k».proof.Proof.Points
public import Idealize.ShloMosaic.Lib.Pipeline.ValueKit.Point

@[expose] public section

set_option maxRecDepth 16384

noncomputable section

namespace Cert.KernelIdeal.Body

open Idealize.ShloMosaic Idealize.ShloMosaic.TcCoe Cert.W4A8 Cert.KernelIdeal.Gen Cert.KernelIdeal.Value

variable (m : (ℓ : Loc nD τ sig) → Buf (Elt Ideal) ℓ) (c : Dev nD)

theorem idx0 : ∀ t : Fin cfg0.N, win0_0.index t = ![0, 0] := by decide +kernel
theorem idx1 : ∀ t : Fin cfg0.N, win0_1.index t = ![0, t.val] := by decide +kernel
theorem idx2 : ∀ t : Fin cfg0.N, win0_2.index t = ![0, t.val] := by decide +kernel
theorem idx3 : ∀ t : Fin cfg0.N, win0_3.index t = ![0, t.val] := by decide +kernel
theorem idx4 : ∀ t : Fin cfg0.N, win0_4.index t = ![0, t.val] := by decide +kernel

theorem acts_eq (i : Fin 256) (k : Fin 3072) :
    acts m c (ValueIdx.ix2 i k) = m ((c : Thread nD τ).loc main_arg0) (ValueIdx.ix3 (⟨i.val / 128, by omega⟩ : Fin 2) (⟨i.val % 128, by omega⟩ : Fin 128) k) := by
  have e := idx0 (⟨0, lt_of_lt_of_eq (by decide) N_0.symm⟩ : Fin cfg0.N)
  unfold acts
  blk_ext! [iblk, V, e]
  · change (0 * 256 + i.val) / 128 = _; omega
  · change (0 * 256 + i.val) % 128 = _; omega
  · change 0 * 3072 + k.val = k.val; omega

theorem words_eq (t : Fin cfg0.N) (ht : t.val < 8) (k : Fin 3072) (l : Fin 128) :
    iblk m c 1 t (ValueIdx.ix2 k l) = m ((c : Thread nD τ).loc main_arg1) (ValueIdx.ix2 k (⟨128 * t.val + l.val, by omega⟩ : Fin 1024)) := by
  rw [← V_main_arg1 m c]
  blk_ext! [iblk, V, idx1 t]
  change t.val * 128 + l.val = _; omega

theorem zeros_eq (t : Fin cfg0.N) (ht : t.val < 8) (g : Fin 24) (l : Fin 128) :
    iblk m c 2 t (ValueIdx.ix2 g l) = m ((c : Thread nD τ).loc main_arg2) (ValueIdx.ix2 g (⟨128 * t.val + l.val, by omega⟩ : Fin 1024)) := by
  rw [← V_main_arg2 m c]
  blk_ext! [iblk, V, idx2 t]
  change t.val * 128 + l.val = _; omega

theorem groups_eq (t : Fin cfg0.N) (ht : t.val < 8) (g : Fin 24) (j : Fin 1024) :
    iblk m c 3 t (ValueIdx.ix2 g j) = m ((c : Thread nD τ).loc main_arg3) (ValueIdx.ix2 g (⟨1024 * t.val + j.val, by omega⟩ : Fin 8192)) := by
  rw [← V_main_arg3 m c]
  blk_ext! [iblk, V, idx3 t]
  change t.val * 1024 + j.val = _; omega

theorem chans_eq (t : Fin cfg0.N) (ht : t.val < 8) (j : Fin 1024) :
    iblk m c 4 t (ValueIdx.ix2 0 j) = m ((c : Thread nD τ).loc main_arg4) (ValueIdx.ix1 (⟨1024 * t.val + j.val, by omega⟩ : Fin 8192)) := by
  blk_ext! [iblk, V, idx4 t]
  change t.val * 1024 + j.val = _; omega

end Cert.KernelIdeal.Body
-- ==== Proof.Ref.lean ====
/- The reference, place by place: a row's scale, its codes, and an output column as the sum over the inputs of a code times a
   dequantised weight, times the row's scale and the column's. -/
module

public import proofs.«01_k».proof.Proof.Quant
public import proofs.«01_k».proof.Proof.Gen.ReferenceIdeal.Read
public import Idealize.ShloMosaic.Lib.Pointwise.ShapeOpsCore

@[expose] public section

set_option maxRecDepth 16384

noncomputable section

namespace Cert.ReferenceIdeal.Hand

open Idealize.ShloMosaic hiding ix1 ix2 ix3 ix4
open Idealize.ShloMosaic.TcCoe Idealize.ShloMosaic.ValueIdx Cert.W4A8 Cert.ReferenceIdeal Cert.ReferenceIdeal.Gen Cert.ReferenceIdeal.Read
open Cert.KernelIdeal.Body (num weight field)

/-! ## The quantiser -/

section Quantise

variable (X : FVec Ideal S2x128x3072 .bf16)

/-- A row of the activations. -/
def line (b : Fin 2) (s : Fin 128) (k : Fin 3072) : EReal := X (ix3 b s k)

theorem max_apply (b : Fin 2) (s : Fin 128) : val_main_v2 (F := Ideal) X (ix2 b s) = rowMax (line X b s) := by
  unfold val_main_v2
  have h : S2x128x3072.Reduces [2] S2x128 := by decide
  refine (Host.reduce_eq_fold_single (FloatOps.maximumf (F := Ideal) (φ := .f32)) _ _ _ h _ _).trans ?_
  unfold rowMax
  refine congrArg (fun f => Finset.fold max (Ideal.ofBits .f32 0xFF800000#32) f (Finset.univ : Finset (Fin 3072))) (funext fun k => ?_)
  have e : h.lift (ix2 b s) k = ix3 b s k := by
    funext a
    match a with
    | ⟨0, _⟩ => rfl
    | ⟨1, _⟩ => rfl
    | ⟨2, _⟩ => rfl
  show max (X (h.lift (ix2 b s) k)) (-(X (h.lift (ix2 b s) k))) = _
  rw [e]
  rfl

theorem scale_apply (b : Fin 2) (s : Fin 128) : val_main_v7 (F := Ideal) X (ix2 b s) = rowScale (line X b s) := by
  unfold rowScale
  rw [val_main_v7_apply, val_main_v4_apply, val_main_v6_apply, val_main_v3_apply, val_main_v5_apply, val_main_call0_v1_apply, max_apply]
  rfl

theorem clip_apply (b : Fin 2) (s : Fin 128) (k : Fin 3072) : val_main_v12 (F := Ideal) X (ix3 b s k) = quant (line X b s) k := by
  have e : idx_main_v8 (idx_main_v9 (ix3 b s k)) = ix2 b s := by
    funext a
    match a with
    | ⟨0, _⟩ => rfl
    | ⟨1, _⟩ => rfl
  unfold quant
  rw [val_main_v12_apply, val_main_call2_v4_apply, val_main_call2_v2_apply, val_main_call2_v1_apply, val_main_v11_apply, val_main_v10_apply,
    val_main_v9_apply, val_main_v8_apply, e, scale_apply]
  rfl

theorem word_apply (b : Fin 2) (s : Fin 128) (k : Fin 3072) :
    val_main_v14 (F := Ideal) X (ix3 b s k) = Ideal.fptosi 8 (quant (line X b s) k) := by
  rw [val_main_v14_apply, val_main_v13_apply, clip_apply]
  exact code_word _

theorem code_apply (b : Fin 2) (s : Fin 128) (k : Fin 3072) :
    val_main_v16 (F := Ideal) X (ix3 b s k) = quant (line X b s) k := by
  rw [val_main_v16_apply, val_main_v15_apply, word_apply]
  exact code_value _

end Quantise

/-! ## One residue's weights and its product, for any shift and any first column -/

section Weights

variable (sh : BitVec 32) (off : Nat) (hs : S24x8192.SlicesBy (![0, off] : Fin 2 → Nat) ![1, 8] S24x1024)
  (W : IVec S3072x1024 32) (Z : IVec S24x1024 32) (SG : IVec S24x8192 8)

/-- The nibbles at a shift, as numbers. -/
def fieldsW : FVec Ideal S3072x1024 .bf16 :=
  sitofp .bf16 (andi (Host.shrsi W (broadcastInDim S3072x1024 ![] bcast_S_S3072x1024 (constantI S_ 32 sh))) (broadcastInDim S3072x1024 ![] bcast_S_S3072x1024 (constantI S_ 32 15#32)))

/-- The zero points at a shift, as numbers. -/
def fieldsZ : FVec Ideal S24x1024 .bf16 :=
  sitofp .bf16 (andi (Host.shrsi Z (broadcastInDim S24x1024 ![] bcast_S_S24x1024 (constantI S_ 32 sh))) (broadcastInDim S24x1024 ![] bcast_S_S24x1024 (constantI S_ 32 15#32)))

/-- Every eighth column of the group scales, as numbers. -/
def fieldsS : FVec Ideal S24x1024 .bf16 := sitofp .bf16 (extui 32 (Host.slice S24x1024 ![0, off] ![1, 8] SG hs) natLt_8_32)

/-- A number of each group over the group's rows. -/
def overGroup (y : FVec Ideal S24x1024 .bf16) : FVec Ideal S24x128x1024 .bf16 :=
  broadcastInDim S24x128x1024 ![0, 1, 2] bcast_S24x1x1024_S24x128x1024_0_1_2 (broadcastInDim S24x1x1024 ![0, 2] bcast_S24x1024_S24x1x1024_0_2 y)

/-- The dequantised weights. -/
def weights : FVec Ideal S3072x1024 .bf16 :=
  shapeCast S3072x1024 (mulf (subf (shapeCast S24x128x1024 (fieldsW sh W) shapeCasts_S3072x1024_S24x128x1024) (overGroup (fieldsZ sh Z))) (overGroup (fieldsS off hs SG))) shapeCasts_S24x128x1024_S3072x1024

/-- The codes times the weights. -/
def prod (X : FVec Ideal S2x128x3072 .bf16) : FVec Ideal S2x128x1024 .f32 :=
  Host.dotGeneral dot_S2x128x3072_S3072x1024_S2x128x1024_2_0_01_1_n_n none (φ₁ := .bf16) (val_main_v16 (F := Ideal) X) (weights sh off hs W Z SG)

theorem overGroup_apply (y : FVec Ideal S24x1024 .bf16) (g : Fin 24) (l : Fin 128) (n : Fin 1024) :
    overGroup y (ix3 g l n) = y (ix2 g n) := by
  unfold overGroup
  refine (broadcastInDim_apply _ _ _ _ (ix3 g (0 : Fin 1) n) fun a => ?_).trans (broadcastInDim_apply _ _ _ _ (ix2 g n) fun a => ?_)
  · match a with
    | ⟨0, _⟩ => rfl
    | ⟨1, _⟩ => rfl
    | ⟨2, _⟩ => rfl
  · match a with
    | ⟨0, _⟩ => rfl
    | ⟨1, _⟩ => rfl

/-- A nibble taken by an arithmetic shift is the nibble, and as a number it is not negative. -/
theorem nibble (w : BitVec 32) (f : Nat) (hf : f < 8) :
    ((((w.sshiftRight (4 * f)) &&& 15#32).toInt : ℝ) : EReal) = num (nib w f) := by
  have e : (w.sshiftRight (4 * f)) &&& 15#32 = nib w f := by
    unfold nib
    ext i hi
    interval_cases f <;> interval_cases i <;> simp [BitVec.getElem_and, BitVec.getElem_sshiftRight]
  rw [e]
  unfold num
  have h := nib_lt w f
  rw [BitVec.toInt_eq_toNat_of_lt (by omega)]
  norm_cast

theorem shrsi_apply (w : BitVec 32) (f : Nat) (hf : f < 8) : IntOp.shrsi .host w (BitVec.ofNat 32 (4 * f)) = w.sshiftRight (4 * f) := by
  have h : (BitVec.ofNat 32 (4 * f)).toNat = 4 * f := by rw [BitVec.toNat_ofNat]; omega
  unfold IntOp.shrsi
  rw [if_pos (by omega), BitVec.sshiftRight', h]

theorem fieldsW_apply (f : Nat) (hf : f < 8) (i : S3072x1024.Idx) : fieldsW (BitVec.ofNat 32 (4 * f)) W i = num (nib (W i) f) := by
  refine Eq.trans ?_ (nibble (W i) f hf)
  rw [← shrsi_apply _ f hf]
  rfl

theorem fieldsZ_apply (f : Nat) (hf : f < 8) (i : S24x1024.Idx) : fieldsZ (BitVec.ofNat 32 (4 * f)) Z i = num (nib (Z i) f) := by
  refine Eq.trans ?_ (nibble (Z i) f hf)
  rw [← shrsi_apply _ f hf]
  rfl

theorem fieldsS_apply (ho : off < 8) (g : Fin 24) (n : Fin 1024) :
    fieldsS off hs SG (ix2 g n) = num (SG (ix2 g (⟨8 * n.val + off, by omega⟩ : Fin 8192))) := by
  have e : Host.slice S24x1024 ![0, off] ![1, 8] SG hs (ix2 g n) = SG (ix2 g (⟨8 * n.val + off, by omega⟩ : Fin 8192)) := by
    rw [Host.slice_apply]
    congr 1
    funext a
    match a with
    | ⟨0, _⟩ => exact Fin.ext (by show 0 + 1 * g.val = g.val; omega)
    | ⟨1, _⟩ => exact Fin.ext (by show off + 8 * n.val = 8 * n.val + off; omega)
  show (((((Host.slice S24x1024 ![0, off] ![1, 8] SG hs (ix2 g n)).setWidth 32).toInt : ℝ)) : EReal) = _
  rw [e]
  unfold num
  generalize SG _ = b
  have h := b.isLt
  rw [BitVec.toInt_eq_toNat_of_lt (by rw [BitVec.toNat_setWidth]; omega), BitVec.toNat_setWidth, Nat.mod_eq_of_lt (by omega)]
  norm_cast

theorem weights_apply (f : Nat) (hf : f < 8) (ho : off < 8) (k : Fin 3072) (n : Fin 1024) :
    weights (BitVec.ofNat 32 (4 * f)) off hs W Z SG (ix2 k n)
      = weight (W (ix2 k n)) (Z (ix2 (⟨k.val / 128, by omega⟩ : Fin 24) n)) f (SG (ix2 (⟨k.val / 128, by omega⟩ : Fin 24) (⟨8 * n.val + off, by omega⟩ : Fin 8192))) := by
  have hk : k.val / 128 * 128 + k.val % 128 = k.val := by omega
  unfold weights weight
  refine (shapeCast_apply _ _ _ (ix3 (⟨k.val / 128, by omega⟩ : Fin 24) (⟨k.val % 128, by omega⟩ : Fin 128) n) ?_).trans ?_
  · refine (Shape.rowMajor_val_three (ix3 (⟨k.val / 128, by omega⟩ : Fin 24) (⟨k.val % 128, by omega⟩ : Fin 128) n)).trans (Eq.trans ?_ (Shape.rowMajor_val_two (ix2 k n)).symm)
    show (k.val / 128 * 128 + k.val % 128) * 1024 + n.val = k.val * 1024 + n.val
    rw [hk]
  · have e : shapeCast S24x128x1024 (fieldsW (BitVec.ofNat 32 (4 * f)) W) shapeCasts_S3072x1024_S24x128x1024 (ix3 (⟨k.val / 128, by omega⟩ : Fin 24) (⟨k.val % 128, by omega⟩ : Fin 128) n)
        = num (nib (W (ix2 k n)) f) := by
      refine (shapeCast_apply _ _ _ (ix2 k n) ?_).trans (fieldsW_apply W f hf _)
      refine (Shape.rowMajor_val_two (ix2 k n)).trans (Eq.trans ?_ (Shape.rowMajor_val_three (ix3 (⟨k.val / 128, by omega⟩ : Fin 24) (⟨k.val % 128, by omega⟩ : Fin 128) n)).symm)
      show k.val * 1024 + n.val = (k.val / 128 * 128 + k.val % 128) * 1024 + n.val
      rw [hk]
    refine congrArg₂ (fun a b : EReal => a * b) (congrArg₂ (fun a b : EReal => a - b) e ?_) ?_
    · exact (overGroup_apply _ _ _ _).trans (fieldsZ_apply Z f hf _)
    · exact (overGroup_apply _ _ _ _).trans (fieldsS_apply off hs SG ho _ _)

theorem dot_apply (y0 : FVec Ideal S2x128x3072 .bf16) (y1 : FVec Ideal S3072x1024 .bf16) (b : Fin 2) (s : Fin 128) (n : Fin 1024) :
    (Host.dotGeneral dot_S2x128x3072_S3072x1024_S2x128x1024_2_0_01_1_n_n none y0 y1 : FVec Ideal S2x128x1024 .f32) (ix3 b s n)
      = ∑ k : Fin 3072, y0 (ix3 b s k) * y1 (ix2 k n) := by
  simp only [Host.dotGeneral]
  rw [Ideal.dotGeneral_apply, ← Equiv.sum_comp (contrEquiv1 dot_S2x128x3072_S3072x1024_S2x128x1024_2_0_01_1_n_n 3072 rfl rfl).symm]
  refine Finset.sum_congr rfl fun k _ => ?_
  have hk := contrEquiv1_symm_val dot_S2x128x3072_S3072x1024_S2x128x1024_2_0_01_1_n_n 3072 rfl rfl k
  have el : dot_S2x128x3072_S3072x1024_S2x128x1024_2_0_01_1_n_n.lhsIdx (ix3 b s n) ((contrEquiv1 dot_S2x128x3072_S3072x1024_S2x128x1024_2_0_01_1_n_n 3072 rfl rfl).symm k) = ix3 b s k := funext fun a => Fin.ext (by
    match a with
    | ⟨0, _⟩ => exact lhs_main_v38_0 _ _
    | ⟨1, _⟩ => exact lhs_main_v38_1 _ _
    | ⟨2, _⟩ => exact (lhs_main_v38_2 _ _).trans hk)
  have er : dot_S2x128x3072_S3072x1024_S2x128x1024_2_0_01_1_n_n.rhsIdx (ix3 b s n) ((contrEquiv1 dot_S2x128x3072_S3072x1024_S2x128x1024_2_0_01_1_n_n 3072 rfl rfl).symm k) = ix2 k n := funext fun a => Fin.ext (by
    match a with
    | ⟨0, _⟩ => exact (rhs_main_v38_0 _ _).trans hk
    | ⟨1, _⟩ => exact rhs_main_v38_1 _ _)
  rw [el, er]

theorem prod_apply (X : FVec Ideal S2x128x3072 .bf16) (f : Nat) (hf : f < 8) (ho : off < 8) (b : Fin 2) (s : Fin 128) (n : Fin 1024) :
    prod (BitVec.ofNat 32 (4 * f)) off hs W Z SG X (ix3 b s n)
      = ∑ k : Fin 3072, quant (line X b s) k * weight (W (ix2 k n)) (Z (ix2 (⟨k.val / 128, by omega⟩ : Fin 24) n)) f (SG (ix2 (⟨k.val / 128, by omega⟩ : Fin 24) (⟨8 * n.val + off, by omega⟩ : Fin 8192))) := by
  unfold prod
  rw [dot_apply]
  refine Finset.sum_congr rfl fun k _ => ?_
  rw [code_apply, weights_apply off hs W Z SG f hf ho]

end Weights

/-! ## The eight residues joined -/

section Result

variable (X : FVec Ideal S2x128x3072 .bf16) (W : IVec S3072x1024 32) (Z : IVec S24x1024 32) (SG : IVec S24x8192 8) (SC : FVec Ideal S8192 .f32)

theorem sliceable (r : Fin 8) : S24x8192.SlicesBy (![0, r.val] : Fin 2 → Nat) ![1, 8] S24x1024 := by
  revert r; decide

/-- A residue's product, with an axis for the residue. -/
def part (r : Fin 8) : FVec Ideal S2x128x1024x1 .f32 :=
  broadcastInDim S2x128x1024x1 ![0, 1, 2] bcast_S2x128x1024_S2x128x1024x1_0_1_2 (prod (BitVec.ofNat 32 (4 * field r)) r.val (sliceable r) W Z SG X)

theorem part_0 : part X W Z SG 0 = val_main_v193 (F := Ideal) X W Z SG := rfl
theorem part_1 : part X W Z SG 1 = val_main_v194 (F := Ideal) X W Z SG := rfl
theorem part_2 : part X W Z SG 2 = val_main_v195 (F := Ideal) X W Z SG := rfl
theorem part_3 : part X W Z SG 3 = val_main_v196 (F := Ideal) X W Z SG := rfl
theorem part_4 : part X W Z SG 4 = val_main_v197 (F := Ideal) X W Z SG := rfl
theorem part_5 : part X W Z SG 5 = val_main_v198 (F := Ideal) X W Z SG := rfl
theorem part_6 : part X W Z SG 6 = val_main_v199 (F := Ideal) X W Z SG := rfl
theorem part_7 : part X W Z SG 7 = val_main_v200 (F := Ideal) X W Z SG := rfl

theorem parts_eq : (List.ofFn fun r : Fin 8 => (⟨S2x128x1024x1, part X W Z SG r⟩ : (s : Shape) × (s.Idx → EReal)))
    = [⟨S2x128x1024x1, val_main_v193 (F := Ideal) X W Z SG⟩, ⟨S2x128x1024x1, val_main_v194 (F := Ideal) X W Z SG⟩, ⟨S2x128x1024x1, val_main_v195 (F := Ideal) X W Z SG⟩, ⟨S2x128x1024x1, val_main_v196 (F := Ideal) X W Z SG⟩,
      ⟨S2x128x1024x1, val_main_v197 (F := Ideal) X W Z SG⟩, ⟨S2x128x1024x1, val_main_v198 (F := Ideal) X W Z SG⟩, ⟨S2x128x1024x1, val_main_v199 (F := Ideal) X W Z SG⟩, ⟨S2x128x1024x1, val_main_v200 (F := Ideal) X W Z SG⟩] := by
  rw [← part_0, ← part_1, ← part_2, ← part_3, ← part_4, ← part_5, ← part_6, ← part_7]
  generalize part X W Z SG = f
  rfl

theorem concatenate_of_eq {t : Shape} {a : Fin t.rank} {xs ys : List ((s : Shape) × (s.Idx → EReal))} (e : xs = ys) (h : Shape.Concatenates (ys.map (·.1)) t a)
    (h' : Shape.Concatenates (xs.map (·.1)) t a) (j : t.Idx) : concatenate t a ys h j = concatenate t a xs h' j := by
  subst e; rfl

theorem part_apply (r : Fin 8) (b : Fin 2) (s : Fin 128) (n : Fin 1024) :
    part X W Z SG r (ix4 b s n (0 : Fin 1))
      = ∑ k : Fin 3072, quant (line X b s) k * weight (W (ix2 k n)) (Z (ix2 (⟨k.val / 128, by omega⟩ : Fin 24) n)) (field r) (SG (ix2 (⟨k.val / 128, by omega⟩ : Fin 24) (⟨8 * n.val + r.val, by omega⟩ : Fin 8192))) := by
  unfold part
  refine (broadcastInDim_apply _ _ _ _ (ix3 b s n) fun a => ?_).trans
    (prod_apply r.val (sliceable r) W Z SG X (field r) (by unfold field; omega) r.isLt b s n)
  match a with
  | ⟨0, _⟩ => rfl
  | ⟨1, _⟩ => rfl
  | ⟨2, _⟩ => rfl

theorem joined_apply (b : Fin 2) (s : Fin 128) (n : Fin 1024) (r : Fin 8) :
    val_main_v201 (F := Ideal) X W Z SG (ix4 b s n r) = part X W Z SG r (ix4 b s n (0 : Fin 1)) := by
  unfold val_main_v201
  have hc : Shape.Concatenates ((List.ofFn fun r : Fin 8 => (⟨S2x128x1024x1, part X W Z SG r⟩ : (s : Shape) × (s.Idx → EReal))).map (·.1)) S2x128x1024x8 3 := by
    rw [parts_eq]; exact concatenates_S2x128x1024x1_S2x128x1024x1_S2x128x1024x1_S2x128x1024x1_S2x128x1024x1_S2x128x1024x1_S2x128x1024x1_S2x128x1024x1_S2x128x1024x8_d3
  refine (concatenate_of_eq (parts_eq X W Z SG) _ hc _).trans ?_
  refine concatenate_ofFn_unit_apply (t := S2x128x1024x8) (s₁ := S2x128x1024x1) 3 (part X W Z SG) hc rfl rfl (ix4 b s n r) r rfl (ix4 b s n (0 : Fin 1)) fun a ha => ?_
  match a with
  | ⟨0, _⟩ => rfl
  | ⟨1, _⟩ => rfl
  | ⟨2, _⟩ => rfl
  | ⟨3, _⟩ => exact absurd rfl ha

/-- An output column of a row: the codes times the dequantised weights, summed, times the row's scale and the column's. -/
theorem y_apply (i : Fin 256) (j : Fin 8192) :
    val_main_v210 (F := Ideal) X W Z SG SC (ix2 i j)
      = (∑ k : Fin 3072, quant (line X ⟨i.val / 128, by omega⟩ ⟨i.val % 128, by omega⟩) k
          * weight (W (ix2 k (⟨j.val / 8, by omega⟩ : Fin 1024))) (Z (ix2 (⟨k.val / 128, by omega⟩ : Fin 24) (⟨j.val / 8, by omega⟩ : Fin 1024))) (field ⟨j.val % 8, by omega⟩)
            (SG (ix2 (⟨k.val / 128, by omega⟩ : Fin 24) j)))
        * rowScale (line X ⟨i.val / 128, by omega⟩ ⟨i.val % 128, by omega⟩) * SC (ix1 j) := by
  have e0 : idx_main_v210 (ix2 i j) = ix3 (⟨i.val / 128, by omega⟩ : Fin 2) (⟨i.val % 128, by omega⟩ : Fin 128) j := by
    funext a
    match a with
    | ⟨0, _⟩ => exact Fin.ext (by show (i.val * 8192 + j.val) / 1048576 = i.val / 128; omega)
    | ⟨1, _⟩ => exact Fin.ext (by show (i.val * 8192 + j.val) / 8192 % 128 = i.val % 128; omega)
    | ⟨2, _⟩ => exact Fin.ext (by show (i.val * 8192 + j.val) % 8192 = j.val; omega)
  rw [val_main_v210_apply, e0]
  generalize hb : (⟨i.val / 128, by omega⟩ : Fin 2) = b
  generalize hs : (⟨i.val % 128, by omega⟩ : Fin 128) = s
  have e1 : idx_main_v202 (ix3 b s j) = ix4 b s (⟨j.val / 8, by omega⟩ : Fin 1024) (⟨j.val % 8, by omega⟩ : Fin 8) := by
    funext a
    match a with
    | ⟨0, _⟩ => exact Fin.ext (by show ((b.val * 128 + s.val) * 8192 + j.val) / 1048576 = b.val; omega)
    | ⟨1, _⟩ => exact Fin.ext (by show ((b.val * 128 + s.val) * 8192 + j.val) / 8192 % 128 = s.val; omega)
    | ⟨2, _⟩ => exact Fin.ext (by show ((b.val * 128 + s.val) * 8192 + j.val) / 8 % 1024 = j.val / 8; omega)
    | ⟨3, _⟩ => exact Fin.ext (by show ((b.val * 128 + s.val) * 8192 + j.val) % 8 = j.val % 8; omega)
  have e2 : idx_main_v203 (idx_main_v204 (ix3 b s j)) = ix2 b s := by
    funext a
    match a with
    | ⟨0, _⟩ => rfl
    | ⟨1, _⟩ => rfl
  have e3 : idx_main_v206 (idx_main_v207 (ix3 b s j)) = ix1 j := by
    funext a
    match a with
    | ⟨0, _⟩ => rfl
  have e4 : (⟨8 * (j.val / 8) + j.val % 8, by omega⟩ : Fin 8192) = j := Fin.ext (by show 8 * (j.val / 8) + j.val % 8 = j.val; omega)
  rw [val_main_v209_apply, val_main_v208_apply, val_main_v207_apply, val_main_v206_apply, e3, val_main_v205_apply, val_main_v204_apply, val_main_v203_apply, e2, scale_apply,
    val_main_v202_apply, e1, joined_apply, part_apply]
  show (∑ k : Fin 3072, _) * _ * _ = _
  simp only [e4]

theorem codes_apply (i : Fin 256) (k : Fin 3072) :
    val_main_v211 (F := Ideal) X (ix2 i k) = Ideal.fptosi 8 (quant (line X ⟨i.val / 128, by omega⟩ ⟨i.val % 128, by omega⟩) k) := by
  have e0 : idx_main_v211 (ix2 i k) = ix3 (⟨i.val / 128, by omega⟩ : Fin 2) (⟨i.val % 128, by omega⟩ : Fin 128) k := by
    funext a
    match a with
    | ⟨0, _⟩ => exact Fin.ext (by show (i.val * 3072 + k.val) / 393216 = i.val / 128; omega)
    | ⟨1, _⟩ => exact Fin.ext (by show (i.val * 3072 + k.val) / 3072 % 128 = i.val % 128; omega)
    | ⟨2, _⟩ => exact Fin.ext (by show (i.val * 3072 + k.val) % 3072 = k.val; omega)
  rw [val_main_v211_apply, e0, word_apply]

end Result

end Cert.ReferenceIdeal.Hand
-- ==== Proof.Equal.lean ====
/- The kernel's three results are the reference's: the codes, their scales, and every column of the output. -/
module

public import proofs.«01_k».proof.Proof.Inputs
public import proofs.«01_k».proof.Proof.Ref

@[expose] public section

set_option maxRecDepth 16384

noncomputable section

namespace Cert.KernelIdeal.Body

open Idealize.ShloMosaic hiding ix1 ix2 ix3 ix4
open Idealize.ShloMosaic.TcCoe Idealize.ShloMosaic.ValueIdx Cert.W4A8 Cert.KernelIdeal.Gen Cert.KernelIdeal.Value
open Cert.ReferenceIdeal.Read (val_main_v210 val_main_v211 val_main_v7)
open Cert.ReferenceIdeal.Hand (line)

variable (m : (ℓ : Loc nD τ sig) → Buf (Elt Ideal) ℓ) (c : Dev nD)

/-- A row of the point's activations is a row of the argument. -/
theorem row_acts (i : Fin 256) :
    row (acts m c) i = line (m ((c : Thread nD τ).loc main_arg0)) ⟨i.val / 128, by omega⟩ ⟨i.val % 128, by omega⟩ :=
  funext fun k => acts_eq m c i k

/-- A dequantised weight of a point's block is the argument's. -/
theorem wt_eq (t : Fin cfg0.N) (ht : t.val < 8) (k : Fin 3072) (l : Fin 128) (r : Fin 8) :
    wt (iblk m c 1 t) (iblk m c 2 t) (iblk m c 3 t) k l r
      = weight (m ((c : Thread nD τ).loc main_arg1) (ix2 k (⟨128 * t.val + l.val, by omega⟩ : Fin 1024)))
          (m ((c : Thread nD τ).loc main_arg2) (ix2 (⟨k.val / 128, by omega⟩ : Fin 24) (⟨128 * t.val + l.val, by omega⟩ : Fin 1024))) (field r)
          (m ((c : Thread nD τ).loc main_arg3) (ix2 (⟨k.val / 128, by omega⟩ : Fin 24) (⟨1024 * t.val + (8 * l.val + r.val), by omega⟩ : Fin 8192))) := by
  unfold wt
  rw [← words_eq m c t ht k l, ← zeros_eq m c t ht _ l, ← groups_eq m c t ht _ ⟨8 * l.val + r.val, by omega⟩]

theorem codes_eq : G6 m c = val_main_v211 (F := Ideal) (m ((c : Thread nD τ).loc main_arg0)) := by
  rw [codes_array]
  funext i
  obtain ⟨a, k, rfl⟩ : ∃ (a : Fin 256) (k : Fin 3072), i = ix2 a k := ⟨i 0, i 1, by funext b; match b with | ⟨0, _⟩ => rfl | ⟨1, _⟩ => rfl⟩
  refine (pay4_apply (acts m c) a k).trans ((congrArg (fun r => Ideal.fptosi 8 (quant r k)) (row_acts m c a)).trans ?_)
  exact (Cert.ReferenceIdeal.Hand.codes_apply _ a k).symm

theorem scales_eq : G7 m c = val_main_v7 (F := Ideal) (m ((c : Thread nD τ).loc main_arg0)) := by
  rw [scales_array]
  funext i
  obtain ⟨b, s, rfl⟩ : ∃ (b : Fin 2) (s : Fin 128), i = ix2 b s := ⟨i 0, i 1, by funext b; match b with | ⟨0, _⟩ => rfl | ⟨1, _⟩ => rfl⟩
  refine (canon_scales (acts m c) b s).trans ((congrArg rowScale ((row_acts m c _).trans ?_)).trans (Cert.ReferenceIdeal.Hand.scale_apply _ b s).symm)
  congr 1
  · exact Fin.ext (by show (128 * b.val + s.val) / 128 = b.val; omega)
  · exact Fin.ext (by show (128 * b.val + s.val) % 128 = s.val; omega)

theorem y_eq : G5 m c = val_main_v210 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) := by
  funext i
  obtain ⟨a, j, rfl⟩ : ∃ (a : Fin 256) (j : Fin 8192), i = ix2 a j := ⟨i 0, i 1, by funext b; match b with | ⟨0, _⟩ => rfl | ⟨1, _⟩ => rfl⟩
  have hq : j.val / 1024 < 8 := by omega
  have ht : (⟨j.val / 1024, lt_of_lt_of_eq hq N_0.symm⟩ : Fin cfg0.N).val = j.val / 1024 := rfl
  generalize (⟨j.val / 1024, lt_of_lt_of_eq hq N_0.symm⟩ : Fin cfg0.N) = t at ht
  have ht8 : t.val < 8 := ht ▸ hq
  refine (y_array m c a j t ht).trans (Eq.trans ?_ (Cert.ReferenceIdeal.Hand.y_apply _ _ _ _ _ a j).symm)
  unfold yOut
  rw [row_acts, chans_eq m c t ht8]
  have e1 : (⟨128 * t.val + j.val % 1024 / 8, by omega⟩ : Fin 1024) = ⟨j.val / 8, by omega⟩ := Fin.ext (by show 128 * t.val + j.val % 1024 / 8 = j.val / 8; omega)
  have e2 : (⟨1024 * t.val + (8 * (j.val % 1024 / 8) + j.val % 1024 % 8), by omega⟩ : Fin 8192) = j := Fin.ext (by show 1024 * t.val + (8 * (j.val % 1024 / 8) + j.val % 1024 % 8) = j.val; omega)
  have e3 : (⟨j.val % 1024 % 8, by omega⟩ : Fin 8) = ⟨j.val % 8, by omega⟩ := Fin.ext (by show j.val % 1024 % 8 = j.val % 8; omega)
  have e4 : (⟨1024 * t.val + j.val % 1024, by omega⟩ : Fin 8192) = j := Fin.ext (by show 1024 * t.val + j.val % 1024 = j.val; omega)
  refine congrArg₂ (fun p q : EReal => p * q) (congrArg (fun p : EReal => p * rowScale _) (Finset.sum_congr rfl fun k _ => congrArg (fun p : EReal => quant (line (m ((c : Thread nD τ).loc main_arg0)) ⟨a.val / 128, by omega⟩ ⟨a.val % 128, by omega⟩) k * p) ?_)) (congrArg (fun q => m ((c : Thread nD τ).loc main_arg4) (ix1 q)) e4)
  refine (wt_eq m c t ht8 k ⟨j.val % 1024 / 8, by omega⟩ ⟨j.val % 1024 % 8, by omega⟩).trans ?_
  show weight (m ((c : Thread nD τ).loc main_arg1) (ix2 k (⟨128 * t.val + j.val % 1024 / 8, _⟩ : Fin 1024))) _ _ (m ((c : Thread nD τ).loc main_arg3) (ix2 _ (⟨1024 * t.val + (8 * (j.val % 1024 / 8) + j.val % 1024 % 8), _⟩ : Fin 8192))) = _
  rw [e1, e2, e3]

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Outs
public import proofs.«01_k».proof.Proof.BitsFrame
public import proofs.«01_k».proof.Proof.Equal
public import proofs.«01_k».proof.Proof.Gen.ReferenceIdeal.Run
public import proofs.«01_k».proof.Proof.Gen.ReferenceIdeal.Read
public import Idealize.ShloMosaic.Lib.Bf16Pair
public import Idealize.ShloMosaic.Adequacy
public import Idealize.ShloMosaic.Init

@[expose] public section

noncomputable section

namespace Cert.Proof

open Idealize.ShloMosaic Idealize.SL.Sem

/-- The reference runs, its arguments end unchanged, and it has no counter. -/
theorem reference_frame : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run (F := Ideal) m g)

/-- The idealized kernel's three results are the reference's at equal arguments. -/
theorem equal_results : Cert.algebraic_KernelIdeal_ReferenceIdeal := by
  intro m g m' g' _ hargs
  refine ⟨fun c => Cert.KernelIdeal.Value.G5 (F := Ideal) m c, fun c => Cert.KernelIdeal.Value.G6 (F := Ideal) m c, fun c => Cert.KernelIdeal.Value.G7 (F := Ideal) m c,
    Cert.KernelIdeal.Value.run (F := Ideal) m g, ?_⟩
  refine (θ_run Cert.ReferenceIdeal.defs _ _).mono (fun r h c => ?_) (Cert.ReferenceIdeal.Value.run (F := Ideal) m' g')
  obtain ⟨hy, hc, hs, hrest⟩ := h c
  obtain ⟨a0, a1, a2, a3, a4⟩ := hargs c
  have ey : _ = Cert.ReferenceIdeal.Read.val_main_v210 (F := Ideal) (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3)) (m' ((c.tc : Thread _ _).loc Cert.ReferenceIdeal.main_arg4)) :=
    hy.trans (Cert.ReferenceIdeal.Read.val_main_v210_eq (F := Ideal) (StableHlo.launchContents m' c))
  have ec : _ = Cert.ReferenceIdeal.Read.val_main_v211 (F := Ideal) (m' ((c.tc : Thread _ _).loc Cert.ReferenceIdeal.main_arg0)) :=
    hc.trans (Cert.ReferenceIdeal.Read.val_main_v211_eq (F := Ideal) (StableHlo.launchContents m' c))
  have es : _ = Cert.ReferenceIdeal.Read.val_main_v7 (F := Ideal) (m' ((c.tc : Thread _ _).loc Cert.ReferenceIdeal.main_arg0)) :=
    hs.trans (Cert.ReferenceIdeal.Read.val_main_v7_eq (F := Ideal) (StableHlo.launchContents m' c))
  rw [a0] at ec es
  rw [a0, a1, a2, a3, a4] at ey
  exact ⟨ey.trans (Cert.KernelIdeal.Body.y_eq m c).symm, ec.trans (Cert.KernelIdeal.Body.codes_eq m c).symm, es.trans (Cert.KernelIdeal.Body.scales_eq m c).symm, hrest⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  reference_frame,
  IdealRules.bf16_pair.statement Cert.KernelIdeal.S256x128 Cert.KernelIdeal.S128x128,
  equal_results⟩

end Cert.Proof

end
